-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S6x1024x3072 : Shape := ⟨3, ![6, 1024, 3072]⟩
abbrev S8192x3072 : Shape := ⟨2, ![8192, 3072]⟩
abbrev S8192 : Shape := ⟨1, ![8192]⟩
abbrev S16x3072 : Shape := ⟨2, ![16, 3072]⟩
abbrev S8192x16 : Shape := ⟨2, ![8192, 16]⟩
abbrev S_ : Shape := ⟨0, ![]⟩

class Facts : Prop where
  bitsLt_bf16_f32 : FTy.bits .bf16 < FTy.bits .f32
  bcast_S_S6x1024x3072 : S_.BroadcastsInDim S6x1024x3072 (![] : Fin 0 → Fin S6x1024x3072.rank)

variable [Facts]

def fn {F : FTy → Type} [FloatOps F] (main_arg0 : FVec F S6x1024x3072 .bf16) (main_arg1 : FVec F S8192x3072 .fp8e4m3) (main_arg2 : FVec F S8192 .f32) (main_arg3 : FVec F S16x3072 .bf16) (main_arg4 : FVec F S8192x16 .bf16) (main_arg5 : FVec F S8192 .f32) : IVec S6x1024x3072 1 :=
  let main_v0 : FVec F S6x1024x3072 .f32 := (extf .f32 · bitsLt_bf16_f32) main_arg0
  let main_v1 : FVec F S6x1024x3072 .f32 := Host.absf main_v0
  let main_cst : FVec F S_ .f32 := constant S_ .f32 0x7F7F0000#32
  let main_v2 : FVec F S6x1024x3072 .f32 := broadcastInDim S6x1024x3072 ![] bcast_S_S6x1024x3072 main_cst
  let main_v3 : IVec S6x1024x3072 1 := cmpf .ole main_v1 main_v2
  main_v3
-- ==== Kernel.lean ====
abbrev S6x1024x3072 : Shape := ⟨3, ![6, 1024, 3072]⟩
abbrev S8192x3072 : Shape := ⟨2, ![8192, 3072]⟩
abbrev S8192 : Shape := ⟨1, ![8192]⟩
abbrev S16x3072 : Shape := ⟨2, ![16, 3072]⟩
abbrev S8192x16 : Shape := ⟨2, ![8192, 16]⟩
abbrev S6144x3072 : Shape := ⟨2, ![6144, 3072]⟩
abbrev S6144x1 : Shape := ⟨2, ![6144, 1]⟩
abbrev S6144x16 : Shape := ⟨2, ![6144, 16]⟩
abbrev S512x3072 : Shape := ⟨2, ![512, 3072]⟩
abbrev S512x1 : Shape := ⟨2, ![512, 1]⟩
abbrev S512x16 : Shape := ⟨2, ![512, 16]⟩
abbrev S512 : Shape := ⟨1, ![512]⟩
abbrev S8192x1 : Shape := ⟨2, ![8192, 1]⟩
abbrev S1x8192 : Shape := ⟨2, ![1, 8192]⟩
abbrev S6144x8192 : Shape := ⟨2, ![6144, 8192]⟩
abbrev S1024x3072 : Shape := ⟨2, ![1024, 3072]⟩
abbrev S1024x1 : Shape := ⟨2, ![1024, 1]⟩
abbrev S1024x16 : Shape := ⟨2, ![1024, 16]⟩
abbrev S1x1024 : Shape := ⟨2, ![1, 1024]⟩
abbrev S1024x1024 : Shape := ⟨2, ![1024, 1024]⟩
abbrev S6x1024x8192 : Shape := ⟨3, ![6, 1024, 8192]⟩
abbrev S6x1024 : Shape := ⟨2, ![6, 1024]⟩

abbrev nBuf : Space → Nat
  | .hbm => 20
  | .vmem => 36
  | .smem => 0
  | _ => 0

abbrev bufTy : (tb : Table) → Fin (tcTables nBuf tb) → BufTy
  | .hbm, ⟨0, _⟩ => ⟨S6x1024x3072, .bf16⟩
  | .hbm, ⟨1, _⟩ => ⟨S8192x3072, .fp8e4m3⟩
  | .hbm, ⟨2, _⟩ => ⟨S8192, .f32⟩
  | .hbm, ⟨3, _⟩ => ⟨S16x3072, .bf16⟩
  | .hbm, ⟨4, _⟩ => ⟨S8192x16, .bf16⟩
  | .hbm, ⟨5, _⟩ => ⟨S8192, .f32⟩
  | .hbm, ⟨6, _⟩ => ⟨S6144x3072, .bf16⟩
  | .hbm, ⟨7, _⟩ => ⟨S6144x3072, .fp8e4m3⟩
  | .hbm, ⟨8, _⟩ => ⟨S6144x1, .f32⟩
  | .hbm, ⟨9, _⟩ => ⟨S6144x16, .bf16⟩
  | .hbm, ⟨10, _⟩ => ⟨S8192x1, .f32⟩
  | .hbm, ⟨11, _⟩ => ⟨S8192x1, .f32⟩
  | .hbm, ⟨12, _⟩ => ⟨S1x8192, .f32⟩
  | .hbm, ⟨13, _⟩ => ⟨S1x8192, .f32⟩
  | .hbm, ⟨14, _⟩ => ⟨S1x8192, .f32⟩
  | .hbm, ⟨15, _⟩ => ⟨S6144x8192, .bf16⟩
  | .hbm, ⟨16, _⟩ => ⟨S6x1024x8192, .bf16⟩
  | .hbm, ⟨17, _⟩ => ⟨S8192, .f32⟩
  | .hbm, ⟨18, _⟩ => ⟨S6x1024x3072, .fp8e4m3⟩
  | .hbm, ⟨19, _⟩ => ⟨S6x1024, .f32⟩
  | .local _ .vmem, ⟨0, _⟩ => ⟨S512x3072, .bf16⟩
  | .local _ .vmem, ⟨1, _⟩ => ⟨S512x3072, .bf16⟩
  | .local _ .vmem, ⟨2, _⟩ => ⟨S16x3072, .bf16⟩
  | .local _ .vmem, ⟨3, _⟩ => ⟨S512x3072, .fp8e4m3⟩
  | .local _ .vmem, ⟨4, _⟩ => ⟨S512x3072, .fp8e4m3⟩
  | .local _ .vmem, ⟨5, _⟩ => ⟨S512x1, .f32⟩
  | .local _ .vmem, ⟨6, _⟩ => ⟨S512x1, .f32⟩
  | .local _ .vmem, ⟨7, _⟩ => ⟨S512x16, .bf16⟩
  | .local _ .vmem, ⟨8, _⟩ => ⟨S512x16, .bf16⟩
  | .local _ .vmem, ⟨9, _⟩ => ⟨S512x3072, .fp8e4m3⟩
  | .local _ .vmem, ⟨10, _⟩ => ⟨S512x3072, .fp8e4m3⟩
  | .local _ .vmem, ⟨11, _⟩ => ⟨S512x1, .f32⟩
  | .local _ .vmem, ⟨12, _⟩ => ⟨S512x1, .f32⟩
  | .local _ .vmem, ⟨13, _⟩ => ⟨S512x16, .bf16⟩
  | .local _ .vmem, ⟨14, _⟩ => ⟨S512x16, .bf16⟩
  | .local _ .vmem, ⟨15, _⟩ => ⟨S16x3072, .bf16⟩
  | .local _ .vmem, ⟨16, _⟩ => ⟨S512x1, .f32⟩
  | .local _ .vmem, ⟨17, _⟩ => ⟨S512x1, .f32⟩
  | .local _ .vmem, ⟨18, _⟩ => ⟨S1024x3072, .fp8e4m3⟩
  | .local _ .vmem, ⟨19, _⟩ => ⟨S1024x3072, .fp8e4m3⟩
  | .local _ .vmem, ⟨20, _⟩ => ⟨S1024x1, .f32⟩
  | .local _ .vmem, ⟨21, _⟩ => ⟨S1024x1, .f32⟩
  | .local _ .vmem, ⟨22, _⟩ => ⟨S1024x16, .bf16⟩
  | .local _ .vmem, ⟨23, _⟩ => ⟨S1024x16, .bf16⟩
  | .local _ .vmem, ⟨24, _⟩ => ⟨S1024x3072, .fp8e4m3⟩
  | .local _ .vmem, ⟨25, _⟩ => ⟨S1024x3072, .fp8e4m3⟩
  | .local _ .vmem, ⟨26, _⟩ => ⟨S1x1024, .f32⟩
  | .local _ .vmem, ⟨27, _⟩ => ⟨S1x1024, .f32⟩
  | .local _ .vmem, ⟨28, _⟩ => ⟨S1024x16, .bf16⟩
  | .local _ .vmem, ⟨29, _⟩ => ⟨S1024x16, .bf16⟩
  | .local _ .vmem, ⟨30, _⟩ => ⟨S1x1024, .f32⟩
  | .local _ .vmem, ⟨31, _⟩ => ⟨S1x1024, .f32⟩
  | .local _ .vmem, ⟨32, _⟩ => ⟨S1x1024, .f32⟩
  | .local _ .vmem, ⟨33, _⟩ => ⟨S1x1024, .f32⟩
  | .local _ .vmem, ⟨34, _⟩ => ⟨S1024x1024, .bf16⟩
  | .local _ .vmem, ⟨35, _⟩ => ⟨S1024x1024, .bf16⟩
  | _, _ => ⟨S6x1024x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc2_stg8_0 : Ref sig .tc := ⟨.vmem, 34, rfl⟩
abbrev cc2_stg8_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem6_1 : DmaSem sig := 31
abbrev cc2_sem7_0 : DmaSem sig := 32
abbrev cc2_sem7_1 : DmaSem sig := 33
abbrev cc2_sem8_0 : DmaSem sig := 34
abbrev cc2_sem8_1 : DmaSem sig := 35

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x16 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x3072 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x16 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x3072 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![6, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x3072 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x16 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x3072 .fp8e4m3 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S1024x16 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S1x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, true]

abbrev stage2_7 : Fin 2 → Memref sig .tc .vmem S1x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![false, true]

abbrev stage2_8 : Fin 2 → Memref sig .tc .vmem S1024x1024 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]
-- ==== ReferenceIdeal.lean ====
abbrev S6x1024x3072 : Shape := ⟨3, ![6, 1024, 3072]⟩
abbrev S8192x3072 : Shape := ⟨2, ![8192, 3072]⟩
abbrev S8192 : Shape := ⟨1, ![8192]⟩
abbrev S16x3072 : Shape := ⟨2, ![16, 3072]⟩
abbrev S8192x16 : Shape := ⟨2, ![8192, 16]⟩
abbrev S6x1024x8192 : Shape := ⟨3, ![6, 1024, 8192]⟩
abbrev S6x1024 : Shape := ⟨2, ![6, 1024]⟩
abbrev S8192x1 : Shape := ⟨2, ![8192, 1]⟩
abbrev S6x1024x1 : Shape := ⟨3, ![6, 1024, 1]⟩
abbrev S6x1024x256 : Shape := ⟨3, ![6, 1024, 256]⟩
abbrev S6144x3072 : Shape := ⟨2, ![6144, 3072]⟩
abbrev S6144x8192 : Shape := ⟨2, ![6144, 8192]⟩
abbrev S1x1x8192 : Shape := ⟨3, ![1, 1, 8192]⟩
abbrev S6144x16 : Shape := ⟨2, ![6144, 16]⟩

abbrev nBuf : Space → Nat
  | .hbm => 10
  | .vmem => 10
  | .smem => 0
  | _ => 0

abbrev bufTy : (tb : Table) → Fin (tcTables nBuf tb) → BufTy
  | .hbm, ⟨0, _⟩ => ⟨S6x1024x3072, .bf16⟩
  | .hbm, ⟨1, _⟩ => ⟨S8192x3072, .fp8e4m3⟩
  | .hbm, ⟨2, _⟩ => ⟨S8192, .f32⟩
  | .hbm, ⟨3, _⟩ => ⟨S16x3072, .bf16⟩
  | .hbm, ⟨4, _⟩ => ⟨S8192x16, .bf16⟩
  | .hbm, ⟨5, _⟩ => ⟨S8192, .f32⟩
  | .hbm, ⟨6, _⟩ => ⟨S6x1024x8192, .bf16⟩
  | .hbm, ⟨7, _⟩ => ⟨S8192, .f32⟩
  | .hbm, ⟨8, _⟩ => ⟨S6x1024x3072, .fp8e4m3⟩
  | .hbm, ⟨9, _⟩ => ⟨S6x1024, .f32⟩
  | .local _ .vmem, ⟨0, _⟩ => ⟨S6x1024x3072, .bf16⟩
  | .local _ .vmem, ⟨1, _⟩ => ⟨S8192x3072, .fp8e4m3⟩
  | .local _ .vmem, ⟨2, _⟩ => ⟨S8192, .f32⟩
  | .local _ .vmem, ⟨3, _⟩ => ⟨S16x3072, .bf16⟩
  | .local _ .vmem, ⟨4, _⟩ => ⟨S8192x16, .bf16⟩
  | .local _ .vmem, ⟨5, _⟩ => ⟨S8192, .f32⟩
  | .local _ .vmem, ⟨6, _⟩ => ⟨S6x1024x8192, .bf16⟩
  | .local _ .vmem, ⟨7, _⟩ => ⟨S8192, .f32⟩
  | .local _ .vmem, ⟨8, _⟩ => ⟨S6x1024x3072, .fp8e4m3⟩
  | .local _ .vmem, ⟨9, _⟩ => ⟨S6x1024, .f32⟩
  | _, _ => ⟨S6x1024x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S6x1024x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x1024x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x1024x3072 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Run.lean ====
/-
  The kernel's run with its results: every execution ends with the four result arrays at what the last stretch of host
  operations leaves in them, and the arguments as they were.
-/
module

public import proofs.«01_k».proof.Proof.Gen.KernelIdeal.Frame

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the results at the last valuation, and the arguments unchanged. -/
theorem run : θ_run defs (onTc (τ := τ) (main (F := F))) ⟨m, fun _ => 0, ρ⟩ (fun r => ∀ c : Dev nD,
      r.2.mem ((c.tc : Thread nD τ).loc main_v8) = W7 m ρ c (Proc.devRef .tc main_v8)
      ∧ r.2.mem ((c.tc : Thread nD τ).loc main_v9) = W7 m ρ c (Proc.devRef .tc main_v9)
      ∧ r.2.mem ((c.tc : Thread nD τ).loc main_v10) = W7 m ρ c (Proc.devRef .tc main_v10)
      ∧ r.2.mem ((c.tc : Thread nD τ).loc main_v11) = W7 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => fun c =>
      ⟨h c _ (mem_uc main_v8 (by decide)), h c _ (mem_uc main_v9 (by decide)), h c _ (mem_uc main_v10 (by decide)), h c _ (mem_uc main_v11 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Run

end
-- ==== Proof.Scale.lean ====
/-
  The quantiser's scalars over the extended reals. A row is scaled by a power of two read off `v`, the row's greatest
  absolute value times the constant nearest 1/448. The kernel finds the exponent field of `v` by eight comparisons
  (`field`) and assembles the scale and its inverse from bits (`kScale`, `kInv`); the reference takes the least
  exponent `e` with `v < 2^e` and the powers of two themselves (`rScale`, `rInv`).
-/
module

public import Idealize.ShloMosaic.Lib.Pointwise
public import Idealize.ShloMosaic.Lib.IdealHost

@[expose] public section

noncomputable section

namespace Cert.Quant

open Idealize.ShloMosaic

/-- The greatest absolute value of a row. -/
def rowMax {n : ℕ} (f : Fin n → EReal) : EReal :=
  Finset.univ.fold max (Ideal.ofBits .f32 0xFF800000#32) fun k => FloatOps.absf (F := Ideal) (φ := .f32) (f k)

/-- What the scale is read off: the row's greatest absolute value times the constant nearest 1/448. -/
def vOf {n : ℕ} (f : Fin n → EReal) : EReal := rowMax f * Ideal.ofBits .f32 0x3B124925#32

/-- One comparison of the kernel's search: the bit `b` is added to the field if the float of zero mantissa with that
    field is at most `v`. -/
def bis (v : EReal) (b f : BitVec 32) : BitVec 32 := if Ideal.ofBits .f32 ((f + b) <<< 23) ≤ v then f + b else f

/-- The exponent field the kernel's eight comparisons find. -/
def field (v : EReal) : BitVec 32 :=
  bis v 1#32 (bis v 2#32 (bis v 4#32 (bis v 8#32 (bis v 16#32 (bis v 32#32 (bis v 64#32 (bis v 128#32 0#32)))))))

/-- The kernel's exponent. -/
def kE (v : EReal) : BitVec 32 := if field v = 0#32 then 0#32 else field v - 126#32

/-- The kernel's scale and its inverse. -/
def kScale (v : EReal) : EReal := Ideal.ofBits .f32 ((127#32 + kE v) <<< 23)
def kInv (v : EReal) : EReal := Ideal.ofBits .f32 ((127#32 - kE v) <<< 23)

/-- The reference's `i`-th candidate exponent. -/
def cand (i : Fin 256) : EReal := FloatOps.sitofp (F := Ideal) .f32 (BitVec.ofNat 32 i) - Ideal.ofBits .f32 0x42FA0000#32

/-- The reference's exponent. -/
def rE (v : EReal) : EReal :=
  if v < Ideal.ofBits .f32 0x00800000#32 then Ideal.ofBits .f32 0x00000000#32
  else Finset.univ.fold min (Ideal.ofBits .f32 0x7F800000#32) fun i : Fin 256 =>
    if v < FloatOps.exp2 (F := Ideal) (φ := .f32) (cand i) then cand i else Ideal.ofBits .f32 0x43030000#32

/-- The reference's scale and its inverse. -/
def rScale (v : EReal) : EReal := FloatOps.exp2 (F := Ideal) (φ := .f32) (rE v)
def rInv (v : EReal) : EReal := FloatOps.exp2 (F := Ideal) (φ := .f32) (Ideal.ofBits .f32 0x00000000#32 - rE v)

end Cert.Quant

end
-- ==== Proof.Spec.lean ====
/-
  The layer's values over the extended reals, entry by entry, in the order of operations that the kernel and the
  reference share: a code, an entry of the merged weight's row norm, an entry of the output.
-/
module

public import proofs.«01_k».proof.Proof.Scale

@[expose] public section

set_option maxRecDepth 16384

noncomputable section

namespace Cert.Quant

open Idealize.ShloMosaic

/-- A code: the element times the inverse scale, clipped at 448 in absolute value. -/
def quant (inv x : EReal) : EReal :=
  min (Ideal.ofBits .f32 0x43E00000#32) (max (Ideal.ofBits .f32 0xC3E00000#32) (x * inv))

/-- One entry of the merged weight's row: the dequantised weight plus half the low-rank update. -/
def merged {R K : ℕ} (w : Fin K → EReal) (ws : EReal) (B : Fin R → EReal) (A : Fin R → Fin K → EReal) (k : Fin K) : EReal :=
  w k * ws + Ideal.ofBits .f32 0x3F000000#32 * ∑ r, B r * A r k

/-- The merged weight's row norm. -/
def rowNorm {R K : ℕ} (w : Fin K → EReal) (ws : EReal) (B : Fin R → EReal) (A : Fin R → Fin K → EReal) : EReal :=
  Ideal.sqrt (∑ k, merged w ws B A k * merged w ws B A k)

/-- One entry of the low-rank path's first product. -/
def low {K : ℕ} (x a : Fin K → EReal) : EReal := ∑ k, x k * a k

/-- One entry of the output: the codes' product, rescaled, plus half the low-rank path, times magnitude over norm. -/
def outOf {R K : ℕ} (code w : Fin K → EReal) (xs ws : EReal) (h B : Fin R → EReal) (mag nrm : EReal) : EReal :=
  ((∑ k, code k * w k) * xs * ws + Ideal.ofBits .f32 0x3F000000#32 * ∑ r, h r * B r) * Ideal.div mag nrm

end Cert.Quant

end
-- ==== Proof.Layer.lean ====
/-
  The layer's four results as whole arrays over the arguments, for a scale `sc` and an inverse scale `inv` read off a
  row: the kernel computes them at its scale and inverse, the reference at its own.
-/
module

public import proofs.«01_k».proof.Proof.Spec

@[expose] public section

set_option maxRecDepth 16384

noncomputable section

namespace Cert.Quant

open Idealize.ShloMosaic

variable (sc inv : EReal → EReal)
variable (X : FVec Ideal ⟨3, ![6, 1024, 3072]⟩ .bf16) (W : FVec Ideal ⟨2, ![8192, 3072]⟩ .fp8e4m3) (ws : FVec Ideal ⟨1, ![8192]⟩ .f32)
  (A : FVec Ideal ⟨2, ![16, 3072]⟩ .bf16) (B : FVec Ideal ⟨2, ![8192, 16]⟩ .bf16) (mag : FVec Ideal ⟨1, ![8192]⟩ .f32)

/-- A token's value that the scale is read off. -/
def tokenV (b : Fin 6) (s : Fin 1024) : EReal := vOf fun k : Fin 3072 => X (ix3 b s k)

/-- A code of a token. -/
def codeAt (b : Fin 6) (s : Fin 1024) (k : Fin 3072) : EReal := quant (inv (tokenV X b s)) (X (ix3 b s k))

/-- A merged weight row's norm. -/
def normAt (n : Fin 8192) : EReal :=
  rowNorm (fun k : Fin 3072 => W (ix2 n k)) (ws (ix1 n)) (fun r : Fin 16 => B (ix2 n r)) (fun r k => A (ix2 r k))

/-- An entry of the output. -/
def outAt (b : Fin 6) (s : Fin 1024) (n : Fin 8192) : EReal :=
  outOf (fun k => codeAt inv X b s k) (fun k => W (ix2 n k)) (sc (tokenV X b s)) (ws (ix1 n))
    (fun r : Fin 16 => low (fun k : Fin 3072 => X (ix3 b s k)) (fun k => A (ix2 r k))) (fun r => B (ix2 n r)) (mag (ix1 n)) (normAt W ws A B n)

/-- The four results. -/
def outArr : FVec Ideal ⟨3, ![6, 1024, 8192]⟩ .bf16 := fun i => outAt sc inv X W ws A B mag (i 0) (i 1) (i 2)
def normArr : FVec Ideal ⟨1, ![8192]⟩ .f32 := fun i => normAt W ws A B (i 0)
def codeArr : FVec Ideal ⟨3, ![6, 1024, 3072]⟩ .fp8e4m3 := fun i => codeAt inv X (i 0) (i 1) (i 2)
def scaleArr : FVec Ideal ⟨2, ![6, 1024]⟩ .f32 := fun i => sc (tokenV X (i 0) (i 1))

theorem codeAt_congr {inv inv' : EReal → EReal} (h : ∀ b s, inv (tokenV X b s) = inv' (tokenV X b s)) (b : Fin 6) (s : Fin 1024) (k : Fin 3072) :
    codeAt inv X b s k = codeAt inv' X b s k := by
  simp only [codeAt, h]

theorem outAt_congr {sc inv sc' inv' : EReal → EReal} (hs : ∀ b s, sc (tokenV X b s) = sc' (tokenV X b s))
    (hi : ∀ b s, inv (tokenV X b s) = inv' (tokenV X b s)) (b : Fin 6) (s : Fin 1024) (n : Fin 8192) :
    outAt sc inv X W ws A B mag b s n = outAt sc' inv' X W ws A B mag b s n := by
  simp only [outAt, codeAt, hs, hi]

/-- Where two scales and two inverses agree on every token, so do the results. -/
theorem outArr_congr {sc inv sc' inv' : EReal → EReal} (hs : ∀ b s, sc (tokenV X b s) = sc' (tokenV X b s))
    (hi : ∀ b s, inv (tokenV X b s) = inv' (tokenV X b s)) :
    outArr sc inv X W ws A B mag = outArr sc' inv' X W ws A B mag :=
  funext fun _ => outAt_congr X W ws A B mag hs hi _ _ _

theorem codeArr_congr {inv inv' : EReal → EReal} (h : ∀ b s, inv (tokenV X b s) = inv' (tokenV X b s)) :
    codeArr inv X = codeArr inv' X :=
  funext fun _ => codeAt_congr X h _ _ _

theorem scaleArr_congr {sc sc' : EReal → EReal} (h : ∀ b s, sc (tokenV X b s) = sc' (tokenV X b s)) :
    scaleArr sc X = scaleArr sc' X :=
  funext fun _ => h _ _

end Cert.Quant

end
-- ==== Proof.Casts.lean ====
/-
  Arrays cast between shapes, read at an index: the tokens as one matrix of rows, a vector as a row or a column.
-/
module

public import Idealize.ShloMosaic.Lib.Pointwise

@[expose] public section

noncomputable section

namespace Cert.Quant

open Idealize.ShloMosaic

variable {α : Type} {a b c n : ℕ}

/-- Rows split into groups. -/
theorem cast_23 (x : (⟨2, ![n, c]⟩ : Shape).Idx → α) (h : (⟨2, ![n, c]⟩ : Shape).ShapeCasts ⟨3, ![a, b, c]⟩) (i : Fin a) (j : Fin b) (k : Fin c)
    (hn : i.val * b + j.val < n) : shapeCast ⟨3, ![a, b, c]⟩ x h (ix3 i j k) = x (ix2 ⟨i.val * b + j.val, hn⟩ k) :=
  shapeCast_apply x h _ _ (by
    rw [Shape.rowMajor_val_two, Shape.rowMajor_val_three]
    rfl)

/-- Groups of rows merged. -/
theorem cast_32 (x : (⟨3, ![a, b, c]⟩ : Shape).Idx → α) (h : (⟨3, ![a, b, c]⟩ : Shape).ShapeCasts ⟨2, ![n, c]⟩) (i : Fin a) (j : Fin b) (k : Fin c)
    (hn : i.val * b + j.val < n) : shapeCast ⟨2, ![n, c]⟩ x h (ix2 ⟨i.val * b + j.val, hn⟩ k) = x (ix3 i j k) :=
  shapeCast_apply x h _ _ (by
    rw [Shape.rowMajor_val_two, Shape.rowMajor_val_three]
    rfl)

/-- A column split into groups. -/
theorem cast_col (x : (⟨2, ![n, 1]⟩ : Shape).Idx → α) (h : (⟨2, ![n, 1]⟩ : Shape).ShapeCasts ⟨2, ![a, b]⟩) (i : Fin a) (j : Fin b)
    (hn : i.val * b + j.val < n) : shapeCast ⟨2, ![a, b]⟩ x h (ix2 i j) = x (ix2 ⟨i.val * b + j.val, hn⟩ 0) :=
  shapeCast_apply x h _ _ (by
    rw [Shape.rowMajor_val_two, Shape.rowMajor_val_two]
    show (i.val * b + j.val) * 1 + 0 = i.val * b + j.val
    omega)

/-- A column as a vector. -/
theorem cast_col_vec (x : (⟨2, ![n, 1]⟩ : Shape).Idx → α) (h : (⟨2, ![n, 1]⟩ : Shape).ShapeCasts ⟨1, ![n]⟩) (i : Fin n) :
    shapeCast ⟨1, ![n]⟩ x h (ix1 i) = x (ix2 i 0) :=
  shapeCast_apply x h _ _ (by
    rw [Shape.rowMajor_val_two, Shape.rowMajor_val_one]
    show i.val * 1 + 0 = i.val
    omega)

/-- A vector as a column. -/
theorem cast_vec_col (x : (⟨1, ![n]⟩ : Shape).Idx → α) (h : (⟨1, ![n]⟩ : Shape).ShapeCasts ⟨2, ![n, 1]⟩) (i : Fin n) :
    shapeCast ⟨2, ![n, 1]⟩ x h (ix2 i 0) = x (ix1 i) :=
  shapeCast_apply x h _ _ (by
    rw [Shape.rowMajor_val_two, Shape.rowMajor_val_one]
    show i.val = i.val * 1 + 0
    omega)

/-- A vector as a row. -/
theorem cast_vec_row (x : (⟨1, ![n]⟩ : Shape).Idx → α) (h : (⟨1, ![n]⟩ : Shape).ShapeCasts ⟨2, ![1, n]⟩) (i : Fin n) :
    shapeCast ⟨2, ![1, n]⟩ x h (ix2 0 i) = x (ix1 i) :=
  shapeCast_apply x h _ _ (by
    rw [Shape.rowMajor_val_two, Shape.rowMajor_val_one]
    show i.val = 0 * n + i.val
    omega)

/-- A column as a row. -/
theorem cast_col_row (x : (⟨2, ![n, 1]⟩ : Shape).Idx → α) (h : (⟨2, ![n, 1]⟩ : Shape).ShapeCasts ⟨2, ![1, n]⟩) (i : Fin n) :
    shapeCast ⟨2, ![1, n]⟩ x h (ix2 0 i) = x (ix2 i 0) :=
  shapeCast_apply x h _ _ (by
    rw [Shape.rowMajor_val_two, Shape.rowMajor_val_two]
    show i.val * 1 + 0 = 0 * n + i.val
    omega)

end Cert.Quant

end
-- ==== Proof.KerPoint.lean ====
/-
  What one block of the kernel computes, entry by entry: a row's exponent field, scale and codes, the low-rank path's
  first product, the merged weight's row norm, and a block of the output.
-/
module

public import proofs.«01_k».proof.Proof.Spec
public import proofs.«01_k».proof.Proof.Gen.KernelIdeal.Frame
public import Idealize.ShloMosaic.Lib.Pipeline.ValueKit

@[expose] public section

set_option maxRecDepth 16384

noncomputable section

namespace Cert.KernelIdeal.Point

open Cert.KernelIdeal Cert.KernelIdeal.Gen Cert.Quant
open Idealize.ShloMosaic Idealize.ShloMosaic.TcCoe Idealize.SL.Sem

/-- One comparison of the search, on a block of rows. -/
def vbis (V : FVec Ideal S512x1 .f32) (b : BitVec 32) (f : IVec S512x1 32) : IVec S512x1 32 :=
  select (cmpf .oge V (bitcastToFloat .f32 (shli (addi f (broadcast S512x1 b)) (broadcast S512x1 23#32)))) (addi f (broadcast S512x1 b)) f

theorem vbis_apply (V : FVec Ideal S512x1 .f32) (b : BitVec 32) (f : IVec S512x1 32) (i : S512x1.Idx) :
    vbis V b f i = bis (V i) b (f i) := by
  pointwise [vbis, bis]
  rfl

theorem pay5_eq (x : Vec Ideal S512x3072 .bf16) :
    k0_pay5 x = vbis (k0_pay4 x) 8#32 (vbis (k0_pay4 x) 16#32 (vbis (k0_pay4 x) 32#32 (vbis (k0_pay4 x) 64#32
      (vbis (k0_pay4 x) 128#32 (broadcast S512x1 0#32))))) := rfl

/-- The kernel's exponent, on a block of rows whose search has come to the bit of weight 8. -/
def expo (f : IVec S512x1 32) : IVec S512x1 32 :=
  select (cmpi .eq f (broadcast S512x1 0#32)) (broadcast S512x1 0#32) (subi f (broadcast S512x1 126#32))

theorem expo_apply (f : IVec S512x1 32) (i : S512x1.Idx) : expo f i = if f i = 0#32 then 0#32 else f i - 126#32 := by
  pointwise [expo]
  by_cases h : f i = 0#32
  · simp [Scalar.select, IntOp.cmpi, h]
  · rw [if_neg h]
    simp only [Scalar.select, IntOp.cmpi, beq_eq_false_iff_ne.mpr h, IntOp.subi]
    rfl

theorem pay6_eq (V : FVec Ideal S512x1 .f32) (f : IVec S512x1 32) :
    k0_pay6 V f = expo (vbis V 1#32 (vbis V 2#32 (vbis V 4#32 f))) := rfl

/-- A maximum along the last of two axes, as a fold over that axis. -/
theorem max_last {n0 n1 : ℕ} (src : FVec Ideal ⟨2, ![n0, n1]⟩ .f32) (acc : BitVec 32) (h : (⟨2, ![n0, n1]⟩ : Shape).Reduces [1] ⟨1, ![n0]⟩)
    (hφ : FKind.Formats .f32) (hacc : acc = FKind.maximumf.neutral .f32 hφ) (b : Fin n0) :
    multiReduction .maximumf [1] ⟨1, ![n0]⟩ src acc h hφ hacc (ix1 b) = Finset.univ.fold max (Ideal.ofBits .f32 acc) fun k => src (ix2 b k) := by
  refine (multiReduction_maximumf_eq_fold src acc h hφ hacc _).trans ((h.fold_fiber_r2_a1 _ _ _ src).trans ?_)
  rfl

theorem unsqueeze_mul (A : FVec Ideal S512 .f32) (c : Ideal .f32) (r : Fin 512) :
    mulf (shapeCast S512x1 A shapeCasts_S512_S512x1) (broadcast S512x1 c) (ix2 r 0) = A (ix1 r) * c := by
  pointwise []

theorem row_max (v : FVec Ideal S512x3072 .f32) (r : Fin 512) :
    (multiReduction FKind.maximumf [1] S512 (absf v) 0xFF800000#32 reduces_S512x3072_S512 (.inl rfl) rfl) (ix1 r)
      = rowMax fun k => v (ix2 r k) := by
  refine (max_last _ _ _ _ _ r).trans ?_
  rfl

theorem pay3 (x : Vec Ideal S512x3072 .bf16) (i : S512x3072.Idx) : k0_pay3 x i = x i := by
  pointwise [k0_pay3, k0_pay2]

/-- The value the scale is read off. -/
theorem pay4 (x : Vec Ideal S512x3072 .bf16) (r : Fin 512) : k0_pay4 x (ix2 r 0) = vOf fun k => x (ix2 r k) := by
  unfold k0_pay4
  refine (unsqueeze_mul _ _ r).trans ((congrArg (· * Ideal.ofBits .f32 0x3B124925#32) (row_max (k0_pay3 x) r)).trans ?_)
  simp only [pay3, vOf]

/-- A row's exponent. -/
theorem exponent (x : Vec Ideal S512x3072 .bf16) (r : Fin 512) :
    k0_pay6 (k0_pay4 x) (k0_pay5 x) (ix2 r 0) = kE (vOf fun k => x (ix2 r k)) := by
  rw [pay6_eq, pay5_eq, expo_apply]
  simp only [vbis_apply]
  rw [pay4]
  rfl

theorem pay7 (V : FVec Ideal S512x1 .f32) (f : IVec S512x1 32) (i : S512x1.Idx) :
    k0_pay7 V f i = Ideal.ofBits .f32 ((127#32 + k0_pay6 V f i) <<< 23) := by
  pointwise [k0_pay7]
  rfl

theorem pay8 (x : FVec Ideal S512x3072 .f32) (V : FVec Ideal S512x1 .f32) (f : IVec S512x1 32) (r : Fin 512) (k : Fin 3072) :
    k0_pay8 x V f (ix2 r k) = quant (Ideal.ofBits .f32 ((127#32 - k0_pay6 V f (ix2 r 0)) <<< 23)) (x (ix2 r k)) := by
  pointwise [k0_pay8, quant]
  rfl

/-- A row's scale. -/
theorem scale (x : Vec Ideal S512x3072 .bf16) (r : Fin 512) :
    k0_pay7 (k0_pay4 x) (k0_pay5 x) (ix2 r 0) = kScale (vOf fun k => x (ix2 r k)) := by
  rw [pay7, exponent, kScale]

/-- A row's codes. -/
theorem code (x : Vec Ideal S512x3072 .bf16) (r : Fin 512) (k : Fin 3072) :
    k0_pay8 (k0_pay3 x) (k0_pay4 x) (k0_pay5 x) (ix2 r k) = quant (kInv (vOf fun k => x (ix2 r k))) (x (ix2 r k)) := by
  rw [pay8, exponent, pay3, kInv]

/-- The low-rank path's first product. -/
theorem lowRank (x : Vec Ideal S512x3072 .bf16) (a : Vec Ideal S16x3072 .bf16) (r : Fin 512) (j : Fin 16) :
    k0_pay1 (k0_pay2 x) a (ix2 r j) = low (fun k => x (ix2 r k)) (fun k => a (ix2 j k)) := by
  pointwise [k0_pay1, k0_pay2, low]

/-- The merged weight's row norm. -/
theorem norm (b : Vec Ideal S512x16 .bf16) (a : Vec Ideal S16x3072 .bf16) (w : Vec Ideal S512x3072 .fp8e4m3) (ws : Vec Ideal S512x1 .f32) (n : Fin 512) :
    k1_pay1 b a w ws (ix2 n 0)
      = rowNorm (fun k => w (ix2 n k)) (ws (ix2 n 0)) (fun r => b (ix2 n r)) (fun r k => a (ix2 r k)) := by
  pointwise [k1_pay1, rowNorm, merged]

/-- An entry of a block of the output. -/
theorem out (c : Vec Ideal S1024x3072 .fp8e4m3) (w : Vec Ideal S1024x3072 .fp8e4m3) (h : Vec Ideal S1024x16 .bf16) (b : Vec Ideal S1024x16 .bf16)
    (mag : Vec Ideal S1x1024 .f32) (nrm : Vec Ideal S1x1024 .f32) (xs : Vec Ideal S1024x1 .f32) (ws : Vec Ideal S1x1024 .f32) (r n : Fin 1024) :
    k2_pay1 c w h b mag nrm xs ws (ix2 r n)
      = outOf (fun k => c (ix2 r k)) (fun k => w (ix2 n k)) (xs (ix2 r 0)) (ws (ix2 0 n)) (fun j => h (ix2 r j)) (fun j => b (ix2 n j))
          (mag (ix2 0 n)) (nrm (ix2 0 n)) := by
  pointwise [k2_pay1, outOf]

end Cert.KernelIdeal.Point

end
-- ==== Proof.Region0.lean ====
/-
  What the first call's arrays hold when it ends: the codes, the scales and the low-rank path's first product, row by row.
-/
module

public import proofs.«01_k».proof.Proof.KerPoint

@[expose] public section

set_option maxRecDepth 16384

noncomputable section

namespace Cert.KernelIdeal.Arr

open Cert.KernelIdeal Cert.KernelIdeal.Gen Cert.KernelIdeal.Point Cert.Quant
open Idealize.ShloMosaic Idealize.ShloMosaic.TcCoe Idealize.SL.Sem
open Idealize.ShloMosaic.Pipeline (Dat)

/-- The codes of a matrix of rows. -/
def codes (x : FVec Ideal S6144x3072 .bf16) : FVec Ideal S6144x3072 .fp8e4m3 :=
  fun i => quant (kInv (vOf fun k : Fin 3072 => x (ix2 (i 0) k))) (x i)

/-- Their scales. -/
def scales (x : FVec Ideal S6144x3072 .bf16) : FVec Ideal S6144x1 .f32 :=
  fun i => kScale (vOf fun k : Fin 3072 => x (ix2 (i 0) k))

/-- The rows' product with the low-rank factor. -/
def lowRow (x : FVec Ideal S6144x3072 .bf16) (a : FVec Ideal S16x3072 .bf16) : FVec Ideal S6144x16 .bf16 :=
  fun i => low (fun k : Fin 3072 => x (ix2 (i 0) k)) (fun k => a (ix2 (i 1) k))

variable (V : (c : Dev nD) → (b : Ref sig .tc) → Buf (Elt Ideal) ((c : Thread nD τ).loc b))

theorem idx0_0 : ∀ t, win0_0.index t = ![(grid0.coords t 0).val, 0] := by decide +kernel
theorem idx0_1 : ∀ t, win0_1.index t = ![0, 0] := by decide +kernel
theorem idx0_2 : ∀ t, win0_2.index t = ![(grid0.coords t 0).val, 0] := by decide +kernel
theorem idx0_3 : ∀ t, win0_3.index t = ![(grid0.coords t 0).val, 0] := by decide +kernel
theorem idx0_4 : ∀ t, win0_4.index t = ![(grid0.coords t 0).val, 0] := by decide +kernel

/-- The array of codes. -/
theorem arr0_2 (c : Dev nD) : (dat0 V c).arrAt 2 cfg0.N = codes (V c main_v0) := by
  refine (dat0 V c).arrAt_eq_of_covers 2 _ (by decide +kernel) fun t hf y => ?_
  blk_simp [idx0_2]
  rw [after0_2]
  frame_out
  change S512x3072.Idx at y
  idx_vars y
  simp only [k0_pay9, k0_pay10]
  frame_out
  refine (code _ _ _).trans ?_
  have hb : ∀ k, iblk0 V c 0 t (ix2 y0 k) = V c main_v0 (ix2 ((((View.whole main_v1_0).slice (win0_2.rect t)).emb (ix2 y0 y1)) 0) k) := fun k => by
    blk_point [iblk0, idx0_0, idx0_2]
  have he : iblk0 V c 0 t (ix2 y0 y1) = V c main_v0 (((View.whole main_v1_0).slice (win0_2.rect t)).emb (ix2 y0 y1)) := by
    blk_point [iblk0, idx0_0, idx0_2]
  rw [he]
  simp only [hb, codes]

/-- The array of scales. -/
theorem arr0_3 (c : Dev nD) : (dat0 V c).arrAt 3 cfg0.N = scales (V c main_v0) := by
  refine (dat0 V c).arrAt_eq_of_covers 3 _ (by decide +kernel) fun t hf y => ?_
  blk_simp [idx0_3]
  rw [after0_3]
  frame_out
  change S512x1.Idx at y
  idx_vars y
  simp only [k0_pay9, k0_pay10]
  frame_out
  obtain rfl : y1 = 0 := Subsingleton.elim _ _
  refine (scale _ _).trans ?_
  have hb : ∀ k, iblk0 V c 0 t (ix2 y0 k) = V c main_v0 (ix2 ((((View.whole main_v1_1).slice (win0_3.rect t)).emb (ix2 y0 0)) 0) k) := fun k => by
    blk_point [iblk0, idx0_0, idx0_3]
  simp only [hb, scales]

/-- The array of the low-rank path's first product. -/
theorem arr0_4 (c : Dev nD) : (dat0 V c).arrAt 4 cfg0.N = lowRow (V c main_v0) (V c main_arg3) := by
  refine (dat0 V c).arrAt_eq_of_covers 4 _ (by decide +kernel) fun t hf y => ?_
  blk_simp [idx0_4]
  rw [after0_4]
  frame_out
  change S512x16.Idx at y
  idx_vars y
  refine (lowRank _ _ _ _).trans ?_
  have hb : ∀ k, iblk0 V c 0 t (ix2 y0 k) = V c main_v0 (ix2 ((((View.whole main_v1_2).slice (win0_4.rect t)).emb (ix2 y0 y1)) 0) k) := fun k => by
    blk_point [iblk0, idx0_0, idx0_4]
  have ha : ∀ k, iblk0 V c 1 t (ix2 y1 k) = V c main_arg3 (ix2 ((((View.whole main_v1_2).slice (win0_4.rect t)).emb (ix2 y0 y1)) 1) k) := fun k => by
    blk_point [iblk0, idx0_1, idx0_4]
  simp only [hb, ha, lowRow]

end Cert.KernelIdeal.Arr

end
-- ==== Proof.Region1.lean ====
/-
  What the second call's array holds when it ends: the merged weight's row norms.
-/
module

public import proofs.«01_k».proof.Proof.KerPoint

@[expose] public section

set_option maxRecDepth 16384

noncomputable section

namespace Cert.KernelIdeal.Arr

open Cert.KernelIdeal Cert.KernelIdeal.Gen Cert.KernelIdeal.Point Cert.Quant
open Idealize.ShloMosaic Idealize.ShloMosaic.TcCoe Idealize.SL.Sem
open Idealize.ShloMosaic.Pipeline (Dat)

/-- The row norms of the merged weight. -/
def norms (w : FVec Ideal S8192x3072 .fp8e4m3) (ws : FVec Ideal S8192x1 .f32) (b : FVec Ideal S8192x16 .bf16) (a : FVec Ideal S16x3072 .bf16) :
    FVec Ideal S8192x1 .f32 :=
  fun i => rowNorm (fun k : Fin 3072 => w (ix2 (i 0) k)) (ws (ix2 (i 0) 0)) (fun r : Fin 16 => b (ix2 (i 0) r)) (fun r k => a (ix2 r k))

variable (V : (c : Dev nD) → (b : Ref sig .tc) → Buf (Elt Ideal) ((c : Thread nD τ).loc b))

theorem idx1_0 : ∀ t, win1_0.index t = ![(grid1.coords t 0).val, 0] := by decide +kernel
theorem idx1_1 : ∀ t, win1_1.index t = ![(grid1.coords t 0).val, 0] := by decide +kernel
theorem idx1_2 : ∀ t, win1_2.index t = ![(grid1.coords t 0).val, 0] := by decide +kernel
theorem idx1_3 : ∀ t, win1_3.index t = ![0, 0] := by decide +kernel
theorem idx1_4 : ∀ t, win1_4.index t = ![(grid1.coords t 0).val, 0] := by decide +kernel

/-- The array of row norms. -/
theorem arr1_4 (c : Dev nD) : (dat1 V c).arrAt 4 cfg1.N = norms (V c main_arg1) (V c main_v2) (V c main_arg4) (V c main_arg3) := by
  refine (dat1 V c).arrAt_eq_of_covers 4 _ (by decide +kernel) fun t hf y => ?_
  blk_simp [idx1_4]
  rw [after1_4]
  frame_out
  change S512x1.Idx at y
  idx_vars y
  obtain rfl : y1 = 0 := Subsingleton.elim _ _
  refine (norm _ _ _ _ _).trans ?_
  have hw : ∀ k, iblk1 V c 0 t (ix2 y0 k) = V c main_arg1 (ix2 ((((View.whole main_v3).slice (win1_4.rect t)).emb (ix2 y0 0)) 0) k) := fun k => by
    blk_point [iblk1, idx1_0, idx1_4]
  have hs : iblk1 V c 1 t (ix2 y0 0) = V c main_v2 (ix2 ((((View.whole main_v3).slice (win1_4.rect t)).emb (ix2 y0 0)) 0) 0) := by
    blk_point [iblk1, idx1_1, idx1_4]
  have hb : ∀ k, iblk1 V c 2 t (ix2 y0 k) = V c main_arg4 (ix2 ((((View.whole main_v3).slice (win1_4.rect t)).emb (ix2 y0 0)) 0) k) := fun k => by
    blk_point [iblk1, idx1_2, idx1_4]
  have ha : ∀ r k, iblk1 V c 3 t (ix2 r k) = V c main_arg3 (ix2 r k) := fun r k => by
    blk_point [iblk1, idx1_3]
  simp only [hw, hs, hb, ha, norms]

end Cert.KernelIdeal.Arr

end
-- ==== Proof.Region2.lean ====
/-
  What the third call's array holds when it ends: the output, token by token and feature by feature.
-/
module

public import proofs.«01_k».proof.Proof.KerPoint

@[expose] public section

set_option maxRecDepth 16384

noncomputable section

namespace Cert.KernelIdeal.Arr

open Cert.KernelIdeal Cert.KernelIdeal.Gen Cert.KernelIdeal.Point Cert.Quant
open Idealize.ShloMosaic Idealize.ShloMosaic.TcCoe Idealize.SL.Sem
open Idealize.ShloMosaic.Pipeline (Dat)

/-- The output from the codes, their scales, the low-rank path's first product, and the weight's data. -/
def outs (c : FVec Ideal S6144x3072 .fp8e4m3) (xs : FVec Ideal S6144x1 .f32) (h : FVec Ideal S6144x16 .bf16) (w : FVec Ideal S8192x3072 .fp8e4m3)
    (ws : FVec Ideal S1x8192 .f32) (b : FVec Ideal S8192x16 .bf16) (mag nrm : FVec Ideal S1x8192 .f32) : FVec Ideal S6144x8192 .bf16 :=
  fun i => outOf (fun k : Fin 3072 => c (ix2 (i 0) k)) (fun k => w (ix2 (i 1) k)) (xs (ix2 (i 0) 0)) (ws (ix2 0 (i 1)))
    (fun j : Fin 16 => h (ix2 (i 0) j)) (fun j => b (ix2 (i 1) j)) (mag (ix2 0 (i 1))) (nrm (ix2 0 (i 1)))

variable (V : (c : Dev nD) → (b : Ref sig .tc) → Buf (Elt Ideal) ((c : Thread nD τ).loc b))

theorem idx2_0 : ∀ t, win2_0.index t = ![(grid2.coords t 0).val, 0] := by decide +kernel
theorem idx2_1 : ∀ t, win2_1.index t = ![(grid2.coords t 0).val, 0] := by decide +kernel
theorem idx2_2 : ∀ t, win2_2.index t = ![(grid2.coords t 0).val, 0] := by decide +kernel
theorem idx2_3 : ∀ t, win2_3.index t = ![(grid2.coords t 1).val, 0] := by decide +kernel
theorem idx2_4 : ∀ t, win2_4.index t = ![0, (grid2.coords t 1).val] := by decide +kernel
theorem idx2_5 : ∀ t, win2_5.index t = ![(grid2.coords t 1).val, 0] := by decide +kernel
theorem idx2_6 : ∀ t, win2_6.index t = ![0, (grid2.coords t 1).val] := by decide +kernel
theorem idx2_7 : ∀ t, win2_7.index t = ![0, (grid2.coords t 1).val] := by decide +kernel
theorem idx2_8 : ∀ t, win2_8.index t = ![(grid2.coords t 0).val, (grid2.coords t 1).val] := by decide +kernel

/-- The output array. -/
theorem arr2_8 (c : Dev nD) : (dat2 V c).arrAt 8 cfg2.N
    = outs (V c main_v1_0) (V c main_v1_1) (V c main_v1_2) (V c main_arg1) (V c main_v4) (V c main_arg4) (V c main_v5) (V c main_v6) := by
  refine (dat2 V c).arrAt_eq_of_covers 8 _ (by decide +kernel) fun t hf y => ?_
  blk_simp [idx2_8]
  rw [after2_8]
  frame_out
  change S1024x1024.Idx at y
  idx_vars y
  refine (out _ _ _ _ _ _ _ _ _ _).trans ?_
  have h0 : ∀ k, iblk2 V c 0 t (ix2 y0 k) = V c main_v1_0 (ix2 ((((View.whole main_v7).slice (win2_8.rect t)).emb (ix2 y0 y1)) 0) k) := fun k => by
    blk_point [iblk2, idx2_0, idx2_8]
  have h1 : iblk2 V c 1 t (ix2 y0 0) = V c main_v1_1 (ix2 ((((View.whole main_v7).slice (win2_8.rect t)).emb (ix2 y0 y1)) 0) 0) := by
    blk_point [iblk2, idx2_1, idx2_8]
  have h2 : ∀ k, iblk2 V c 2 t (ix2 y0 k) = V c main_v1_2 (ix2 ((((View.whole main_v7).slice (win2_8.rect t)).emb (ix2 y0 y1)) 0) k) := fun k => by
    blk_point [iblk2, idx2_2, idx2_8]
  have h3 : ∀ k, iblk2 V c 3 t (ix2 y1 k) = V c main_arg1 (ix2 ((((View.whole main_v7).slice (win2_8.rect t)).emb (ix2 y0 y1)) 1) k) := fun k => by
    blk_point [iblk2, idx2_3, idx2_8]
  have h4 : iblk2 V c 4 t (ix2 0 y1) = V c main_v4 (ix2 0 ((((View.whole main_v7).slice (win2_8.rect t)).emb (ix2 y0 y1)) 1)) := by
    blk_point [iblk2, idx2_4, idx2_8]
  have h5 : ∀ k, iblk2 V c 5 t (ix2 y1 k) = V c main_arg4 (ix2 ((((View.whole main_v7).slice (win2_8.rect t)).emb (ix2 y0 y1)) 1) k) := fun k => by
    blk_point [iblk2, idx2_5, idx2_8]
  have h6 : iblk2 V c 6 t (ix2 0 y1) = V c main_v5 (ix2 0 ((((View.whole main_v7).slice (win2_8.rect t)).emb (ix2 y0 y1)) 1)) := by
    blk_point [iblk2, idx2_6, idx2_8]
  have h7 : iblk2 V c 7 t (ix2 0 y1) = V c main_v6 (ix2 0 ((((View.whole main_v7).slice (win2_8.rect t)).emb (ix2 y0 y1)) 1)) := by
    blk_point [iblk2, idx2_7, idx2_8]
  simp only [h0, h1, h2, h3, h4, h5, h6, h7, outs]

end Cert.KernelIdeal.Arr

end
-- ==== Proof.Result.lean ====
/-
  The kernel's results as the layer's arrays, at the kernel's scale: what the last host operations leave, traced back
  through the three calls to the arguments.
-/
module

public import proofs.«01_k».proof.Proof.Layer
public import proofs.«01_k».proof.Proof.Casts
public import proofs.«01_k».proof.Proof.Region0
public import proofs.«01_k».proof.Proof.Region1
public import proofs.«01_k».proof.Proof.Region2

@[expose] public section

set_option maxRecDepth 16384

noncomputable section

namespace Cert.KernelIdeal.Result

open Cert.KernelIdeal Cert.KernelIdeal.Gen Cert.KernelIdeal.Arr Cert.Quant
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The tokens as a matrix of rows. -/
def rows (c : Dev nD) : FVec Ideal S6144x3072 .bf16 := shapeCast S6144x3072 (m ((c : Thread nD τ).loc main_arg0)) shapeCasts_S6x1024x3072_S6144x3072

theorem v0_eq (c : Dev nD) : V1 m ρ c main_v0 = rows m c := by
  unfold V1 W1 hostOps0
  after_results
  rfl

theorem v2_eq (c : Dev nD) : V3 m ρ c main_v2 = shapeCast S8192x1 (m ((c : Thread nD τ).loc main_arg2)) shapeCasts_S8192_S8192x1 := by
  unfold V3 W3 hostOps1
  after_results
  rw [W2_args m ρ c main_arg2 (by decide)]
  rfl

theorem v4_eq (c : Dev nD) : V5 m ρ c main_v4 = shapeCast S1x8192 (m ((c : Thread nD τ).loc main_arg2)) shapeCasts_S8192_S1x8192 := by
  unfold V5 W5 hostOps2
  after_results
  rw [W4_args m ρ c main_arg2 (by decide)]
  rfl

theorem v5_eq (c : Dev nD) : V5 m ρ c main_v5 = shapeCast S1x8192 (m ((c : Thread nD τ).loc main_arg5)) shapeCasts_S8192_S1x8192 := by
  unfold V5 W5 hostOps2
  after_results
  rw [W4_args m ρ c main_arg5 (by decide)]
  rfl

/-- The row norms, as the second call leaves them. -/
theorem v3_eq (c : Dev nD) : W4 m ρ c (Proc.devRef .tc main_v3)
    = norms (m ((c : Thread nD τ).loc main_arg1)) (shapeCast S8192x1 (m ((c : Thread nD τ).loc main_arg2)) shapeCasts_S8192_S8192x1)
        (m ((c : Thread nD τ).loc main_arg4)) (m ((c : Thread nD τ).loc main_arg3)) := by
  refine (W4_arr m ρ c 4).trans ((arr1_4 (V3 m ρ) c).trans ?_)
  rw [v2_eq, show V3 m ρ c main_arg1 = _ from W3_args m ρ c main_arg1 (by decide), show V3 m ρ c main_arg4 = _ from W3_args m ρ c main_arg4 (by decide),
    show V3 m ρ c main_arg3 = _ from W3_args m ρ c main_arg3 (by decide)]

theorem v6_eq (c : Dev nD) : V5 m ρ c main_v6 = shapeCast S1x8192 (norms (m ((c : Thread nD τ).loc main_arg1)) (shapeCast S8192x1 (m ((c : Thread nD τ).loc main_arg2)) shapeCasts_S8192_S8192x1)
        (m ((c : Thread nD τ).loc main_arg4)) (m ((c : Thread nD τ).loc main_arg3))) shapeCasts_S8192x1_S1x8192 := by
  unfold V5 W5 hostOps2
  after_results
  rw [v3_eq]
  rfl

/-- What the first call leaves, as it stands after it. -/
theorem q2 (c : Dev nD) : W2 m ρ c (Proc.devRef .tc main_v1_0) = codes (rows m c) :=
  (W2_arr m ρ c 2).trans ((arr0_2 (V1 m ρ) c).trans (by rw [v0_eq]))
theorem q3 (c : Dev nD) : W2 m ρ c (Proc.devRef .tc main_v1_1) = scales (rows m c) :=
  (W2_arr m ρ c 3).trans ((arr0_3 (V1 m ρ) c).trans (by rw [v0_eq]))
theorem q4 (c : Dev nD) : W2 m ρ c (Proc.devRef .tc main_v1_2) = lowRow (rows m c) (m ((c : Thread nD τ).loc main_arg3)) :=
  (W2_arr m ρ c 4).trans ((arr0_4 (V1 m ρ) c).trans (by rw [v0_eq, show V1 m ρ c main_arg3 = _ from W1_args m ρ c main_arg3 (by decide)]))

theorem keep {r : Ref sig .tc} (h1 : r ∉ hostOps1_W) (h2 : ∀ w : Fin cfg1.W, Pipeline.arrRef spec1 w = r → (cfg1.win w).isOut = false)
    (h3 : r ∉ hostOps2_W) (c : Dev nD) : W5 m ρ c (Proc.devRef .tc r) = W2 m ρ c (Proc.devRef .tc r) :=
  (W5_of m ρ c r h3).trans ((W4_of m ρ c r h2).trans (W3_of m ρ c r h1))

theorem c2 (c : Dev nD) : V5 m ρ c main_v1_0 = codes (rows m c) :=
  (keep m ρ (by decide) (by decide +kernel) (by decide) c).trans (q2 m ρ c)
theorem c3 (c : Dev nD) : V5 m ρ c main_v1_1 = scales (rows m c) :=
  (keep m ρ (by decide) (by decide +kernel) (by decide) c).trans (q3 m ρ c)
theorem c4 (c : Dev nD) : V5 m ρ c main_v1_2 = lowRow (rows m c) (m ((c : Thread nD τ).loc main_arg3)) :=
  (keep m ρ (by decide) (by decide +kernel) (by decide) c).trans (q4 m ρ c)

/-- The output, as the third call leaves it. -/
theorem v7_eq (c : Dev nD) : W6 m ρ c (Proc.devRef .tc main_v7)
    = outs (codes (rows m c)) (scales (rows m c)) (lowRow (rows m c) (m ((c : Thread nD τ).loc main_arg3))) (m ((c : Thread nD τ).loc main_arg1))
        (shapeCast S1x8192 (m ((c : Thread nD τ).loc main_arg2)) shapeCasts_S8192_S1x8192) (m ((c : Thread nD τ).loc main_arg4))
        (shapeCast S1x8192 (m ((c : Thread nD τ).loc main_arg5)) shapeCasts_S8192_S1x8192)
        (shapeCast S1x8192 (norms (m ((c : Thread nD τ).loc main_arg1)) (shapeCast S8192x1 (m ((c : Thread nD τ).loc main_arg2)) shapeCasts_S8192_S8192x1)
          (m ((c : Thread nD τ).loc main_arg4)) (m ((c : Thread nD τ).loc main_arg3))) shapeCasts_S8192x1_S1x8192) := by
  refine (W6_arr m ρ c 8).trans ((arr2_8 (V5 m ρ) c).trans ?_)
  rw [c2, c3, c4, v4_eq, v5_eq, v6_eq, show V5 m ρ c main_arg1 = _ from W5_args m ρ c main_arg1 (by decide),
    show V5 m ρ c main_arg4 = _ from W5_args m ρ c main_arg4 (by decide)]

theorem last {r : Ref sig .tc} (h : ∀ w : Fin cfg2.W, Pipeline.arrRef spec2 w = r → (cfg2.win w).isOut = false) (c : Dev nD) :
    W6 m ρ c (Proc.devRef .tc r) = W5 m ρ c (Proc.devRef .tc r) := W6_of m ρ c r h

theorem flat (b : Fin 6) (s : Fin 1024) : b.val * 1024 + s.val < 6144 := by omega

/-- The row of a token. -/
abbrev row (b : Fin 6) (s : Fin 1024) : Fin 6144 := ⟨b.val * 1024 + s.val, flat b s⟩

theorem rows_apply (c : Dev nD) (b : Fin 6) (s : Fin 1024) (k : Fin 3072) :
    rows m c (ix2 (row b s) k) = m ((c : Thread nD τ).loc main_arg0) (ix3 b s k) :=
  cast_32 _ shapeCasts_S6x1024x3072_S6144x3072 b s k (flat b s)

/-- A row norm. -/
theorem norm_apply (W : FVec Ideal S8192x3072 .fp8e4m3) (ws : FVec Ideal S8192 .f32) (A : FVec Ideal S16x3072 .bf16) (B : FVec Ideal S8192x16 .bf16) (n : Fin 8192) :
    norms W (shapeCast S8192x1 ws shapeCasts_S8192_S8192x1) B A (ix2 n 0) = normAt W ws A B n := by
  show rowNorm _ (shapeCast S8192x1 ws shapeCasts_S8192_S8192x1 (ix2 n 0)) _ _ = _
  rw [show shapeCast S8192x1 ws shapeCasts_S8192_S8192x1 (ix2 n 0) = ws (ix1 n) from cast_vec_col _ _ _]
  rfl

/-- A code. -/
theorem code_apply (X : FVec Ideal S6x1024x3072 .bf16) (R : FVec Ideal S6144x3072 .bf16)
    (h : ∀ (b : Fin 6) (s : Fin 1024) (k : Fin 3072), R (ix2 (row b s) k) = X (ix3 b s k)) (b : Fin 6) (s : Fin 1024) (k : Fin 3072) :
    codes R (ix2 (row b s) k) = codeAt kInv X b s k := by
  show quant (kInv (vOf fun k : Fin 3072 => R (ix2 (row b s) k))) (R (ix2 (row b s) k)) = _
  simp only [h]
  rfl

/-- A scale. -/
theorem scale_apply (X : FVec Ideal S6x1024x3072 .bf16) (R : FVec Ideal S6144x3072 .bf16)
    (h : ∀ (b : Fin 6) (s : Fin 1024) (k : Fin 3072), R (ix2 (row b s) k) = X (ix3 b s k)) (b : Fin 6) (s : Fin 1024) :
    scales R (ix2 (row b s) 0) = kScale (tokenV X b s) := by
  show kScale (vOf fun k : Fin 3072 => R (ix2 (row b s) k)) = _
  simp only [h]
  rfl

/-- An entry of the low-rank path's first product. -/
theorem low_apply (X : FVec Ideal S6x1024x3072 .bf16) (R : FVec Ideal S6144x3072 .bf16) (A : FVec Ideal S16x3072 .bf16)
    (h : ∀ (b : Fin 6) (s : Fin 1024) (k : Fin 3072), R (ix2 (row b s) k) = X (ix3 b s k)) (b : Fin 6) (s : Fin 1024) (r : Fin 16) :
    lowRow R A (ix2 (row b s) r) = low (fun k : Fin 3072 => X (ix3 b s k)) (fun k => A (ix2 r k)) := by
  show low (fun k : Fin 3072 => R (ix2 (row b s) k)) (fun k => A (ix2 r k)) = _
  simp only [h]

/-- An entry of the output, from its operands' entries. -/
theorem outs_apply (c : FVec Ideal S6144x3072 .fp8e4m3) (xs : FVec Ideal S6144x1 .f32) (h : FVec Ideal S6144x16 .bf16) (w : FVec Ideal S8192x3072 .fp8e4m3)
    (ws : FVec Ideal S1x8192 .f32) (b : FVec Ideal S8192x16 .bf16) (mag nrm : FVec Ideal S1x8192 .f32) (t : Fin 6144) (n : Fin 8192) :
    outs c xs h w ws b mag nrm (ix2 t n) = outOf (fun k : Fin 3072 => c (ix2 t k)) (fun k => w (ix2 n k)) (xs (ix2 t 0)) (ws (ix2 0 n))
      (fun j : Fin 16 => h (ix2 t j)) (fun j => b (ix2 n j)) (mag (ix2 0 n)) (nrm (ix2 0 n)) := rfl

/-- The first result. -/
theorem v8_eq (c : Dev nD) : W7 m ρ c (Proc.devRef .tc main_v8)
    = outArr kScale kInv (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  unfold W7 hostOps3
  after_results
  rw [v7_eq]
  funext i
  change S6x1024x8192.Idx at i
  idx_vars i
  refine (cast_23 _ shapeCasts_S6144x8192_S6x1024x8192 i0 i1 i2 (flat i0 i1)).trans ?_
  refine (outs_apply ..).trans ?_
  simp only [code_apply _ _ (rows_apply m c), scale_apply _ _ (rows_apply m c), low_apply _ _ _ (rows_apply m c)]
  rw [show shapeCast S1x8192 (m ((c : Thread nD τ).loc main_arg2)) shapeCasts_S8192_S1x8192 (ix2 0 i2) = (m ((c : Thread nD τ).loc main_arg2)) (ix1 i2) from cast_vec_row _ _ _,
    show shapeCast S1x8192 (m ((c : Thread nD τ).loc main_arg5)) shapeCasts_S8192_S1x8192 (ix2 0 i2) = (m ((c : Thread nD τ).loc main_arg5)) (ix1 i2) from cast_vec_row _ _ _,
    show shapeCast S1x8192 (norms (m ((c : Thread nD τ).loc main_arg1)) (shapeCast S8192x1 (m ((c : Thread nD τ).loc main_arg2)) shapeCasts_S8192_S8192x1) (m ((c : Thread nD τ).loc main_arg4)) (m ((c : Thread nD τ).loc main_arg3))) shapeCasts_S8192x1_S1x8192 (ix2 0 i2)
      = normAt (m ((c : Thread nD τ).loc main_arg1)) (m ((c : Thread nD τ).loc main_arg2)) (m ((c : Thread nD τ).loc main_arg3)) (m ((c : Thread nD τ).loc main_arg4)) i2 from (cast_col_row _ _ _).trans (norm_apply _ _ _ _ _)]
  rfl

/-- The second result. -/
theorem v9_eq (c : Dev nD) : W7 m ρ c (Proc.devRef .tc main_v9) = normArr (m ((c : Thread nD τ).loc main_arg1)) (m ((c : Thread nD τ).loc main_arg2)) (m ((c : Thread nD τ).loc main_arg3)) (m ((c : Thread nD τ).loc main_arg4)) := by
  unfold W7 hostOps3
  after_results
  rw [last m ρ (r := main_v3) (by decide +kernel), W5_of m ρ c main_v3 (by decide), v3_eq]
  funext i
  change S8192.Idx at i
  idx_vars i
  exact (cast_col_vec _ shapeCasts_S8192x1_S8192 i0).trans (norm_apply _ _ _ _ _)

/-- The third result. -/
theorem v10_eq (c : Dev nD) : W7 m ρ c (Proc.devRef .tc main_v10) = codeArr kInv (m ((c : Thread nD τ).loc main_arg0)) := by
  unfold W7 hostOps3
  after_results
  rw [last m ρ (r := main_v1_0) (by decide +kernel), show W5 m ρ c (Proc.devRef .tc main_v1_0) = codes (rows m c) from c2 m ρ c]
  funext i
  change S6x1024x3072.Idx at i
  idx_vars i
  exact (cast_23 _ shapeCasts_S6144x3072_S6x1024x3072 i0 i1 i2 (flat i0 i1)).trans (code_apply _ _ (rows_apply m c) _ _ _)

/-- The fourth result. -/
theorem v11_eq (c : Dev nD) : W7 m ρ c (Proc.devRef .tc main_v11) = scaleArr kScale (m ((c : Thread nD τ).loc main_arg0)) := by
  unfold W7 hostOps3
  after_results
  rw [last m ρ (r := main_v1_1) (by decide +kernel), show W5 m ρ c (Proc.devRef .tc main_v1_1) = scales (rows m c) from c3 m ρ c]
  funext i
  change S6x1024.Idx at i
  idx_vars i
  exact (cast_col _ shapeCasts_S6144x1_S6x1024 i0 i1 (flat i0 i1)).trans (scale_apply _ _ (rows_apply m c) _ _)

end Cert.KernelIdeal.Result

end
-- ==== Proof.RefPoint.lean ====
/-
  What the reference computes, entry by entry: a token's exponent, scale and codes, the merged weight's row norm, and
  the output.
-/
module

public import proofs.«01_k».proof.Proof.Spec
public import proofs.«01_k».proof.Proof.Gen.ReferenceIdeal.Frame
public import Idealize.ShloMosaic.Lib.Pipeline.ValueKit

@[expose] public section

set_option maxRecDepth 16384

noncomputable section

namespace Cert.ReferenceIdeal.Point

open Cert.ReferenceIdeal Cert.ReferenceIdeal.Gen Cert.Quant
open Idealize.ShloMosaic Idealize.ShloMosaic.TcCoe Idealize.SL.Sem

/-- A maximum along the last of three axes, as a fold over that axis. -/
theorem max_last {n0 n1 n2 : ℕ} (src : FVec Ideal ⟨3, ![n0, n1, n2]⟩ .f32) (acc : BitVec 32) (h : (⟨3, ![n0, n1, n2]⟩ : Shape).Reduces [2] ⟨2, ![n0, n1]⟩)
    (hφ : FKind.Formats .f32) (hacc : acc = FKind.maximumf.neutral .f32 hφ) (b : Fin n0) (s : Fin n1) :
    multiReduction .maximumf [2] ⟨2, ![n0, n1]⟩ src acc h hφ hacc (ix2 b s) = Finset.univ.fold max (Ideal.ofBits .f32 acc) fun k => src (ix3 b s k) := by
  refine (multiReduction_maximumf_eq_fold src acc h hφ hacc _).trans ((h.fold_fiber_r3_a2 _ _ _ src).trans ?_)
  rfl

/-- A minimum along the last of three axes, as a fold over that axis. -/
theorem min_last {n0 n1 n2 : ℕ} (src : FVec Ideal ⟨3, ![n0, n1, n2]⟩ .f32) (acc : BitVec 32) (h : (⟨3, ![n0, n1, n2]⟩ : Shape).Reduces [2] ⟨2, ![n0, n1]⟩)
    (hφ : FKind.Formats .f32) (hacc : acc = FKind.minimumf.neutral .f32 hφ) (b : Fin n0) (s : Fin n1) :
    multiReduction .minimumf [2] ⟨2, ![n0, n1]⟩ src acc h hφ hacc (ix2 b s) = Finset.univ.fold min (Ideal.ofBits .f32 acc) fun k => src (ix3 b s k) := by
  refine (multiReduction_minimumf_eq_fold src acc h hφ hacc _).trans ((h.fold_fiber_r3_a2 _ _ _ src).trans ?_)
  rfl

theorem unsqueeze (A : FVec Ideal S6x1024 .f32) (b : Fin 6) (s : Fin 1024) :
    (shapeCast S6x1024x1 A shapeCasts_S6x1024_S6x1024x1) (ix3 b s 0) = A (ix2 b s) := by
  pointwise []

theorem unsqueeze_mul (A : FVec Ideal S6x1024 .f32) (c : Ideal .f32) (b : Fin 6) (s : Fin 1024) :
    mulf (shapeCast S6x1024x1 A shapeCasts_S6x1024_S6x1024x1) (broadcast S6x1024x1 c) (ix3 b s 0) = A (ix2 b s) * c := by
  pointwise []

theorem row_max (v : FVec Ideal S6x1024x3072 .f32) (b : Fin 6) (s : Fin 1024) :
    (multiReduction FKind.maximumf [2] S6x1024 (absf v) 0xFF800000#32 reduces_S6x1024x3072_S6x1024 (.inl rfl) rfl) (ix2 b s)
      = rowMax fun k => v (ix3 b s k) := by
  refine (max_last _ _ _ _ _ b s).trans ?_
  rfl

/-- The value the scale is read off. -/
theorem pay8 (x : Vec Ideal S6x1024x3072 .bf16) (b : Fin 6) (s : Fin 1024) : k0_pay8 x (ix3 b s 0) = vOf fun k => x (ix3 b s k) := by
  unfold k0_pay8
  exact (unsqueeze_mul _ _ b s).trans (congrArg (· * Ideal.ofBits .f32 0x3B124925#32) (row_max (k0_pay7 x) b s))

theorem cands (v : FVec Ideal S6x1024x1 .f32) (c d : Ideal .f32) (b : Fin 6) (s : Fin 1024) (k : Fin 256) :
    select (cmpf CmpFPredicate.olt (broadcastTo S6x1024x256 v broadcasts_S6x1024x1_S6x1024x256)
            (exp2
              (subf (sitofp FTy.f32 (iota Kind.tc S6x1024x256 32 [2] iota_S6x1024x256_d2_w32))
                (broadcast S6x1024x256 c))))
          (subf (sitofp FTy.f32 (iota Kind.tc S6x1024x256 32 [2] iota_S6x1024x256_d2_w32))
            (broadcast S6x1024x256 c))
          (broadcast S6x1024x256 d) (ix3 b s k) =
      if v (ix3 b s 0) < FloatOps.exp2 (F := Ideal) (φ := .f32) (FloatOps.sitofp (F := Ideal) .f32 (BitVec.ofNat 32 k) - c) then FloatOps.sitofp (F := Ideal) .f32 (BitVec.ofNat 32 k) - c else d := by
  pointwise []

theorem min_cands (v : FVec Ideal S6x1024x256 .f32) (b : Fin 6) (s : Fin 1024) :
    (shapeCast S6x1024x1 (multiReduction FKind.minimumf [2] S6x1024 v 0x7F800000#32 reduces_S6x1024x256_S6x1024
          (.inl rfl) rfl) shapeCasts_S6x1024_S6x1024x1) (ix3 b s 0) = Finset.univ.fold min (Ideal.ofBits .f32 0x7F800000#32) fun k => v (ix3 b s k) := by
  exact (unsqueeze _ b s).trans (min_last _ _ _ _ _ b s)

/-- The least candidate exponent above the value. -/
theorem pay9 (x : Vec Ideal S6x1024x3072 .bf16) (b : Fin 6) (s : Fin 1024) :
    k0_pay9 x (ix3 b s 0) = Finset.univ.fold min (Ideal.ofBits .f32 0x7F800000#32) fun i : Fin 256 =>
      if k0_pay8 x (ix3 b s 0) < FloatOps.exp2 (F := Ideal) (φ := .f32) (cand i) then cand i else Ideal.ofBits .f32 0x43030000#32 := by
  unfold k0_pay9
  generalize k0_pay8 x = v
  refine (min_cands _ b s).trans ?_
  refine Finset.fold_congr fun k _ => ?_
  exact cands v _ _ b s k

theorem less (v : FVec Ideal S6x1024x1 .f32) (c : Ideal .f32) (i : S6x1024x1.Idx) :
    (cmpf .olt v (broadcast S6x1024x1 c) : IVec S6x1024x1 1) i = BitVec.ofBool (decide (v i < c)) := by
  pointwise []

theorem pay10 (x : Vec Ideal S6x1024x3072 .bf16) (i : S6x1024x1.Idx) :
    k0_pay10 x i = BitVec.ofBool (decide (k0_pay8 x i < Ideal.ofBits .f32 0x00800000#32)) := by
  unfold k0_pay10
  exact less (k0_pay8 x) _ i

theorem pay1 (v34 : FVec Ideal S6x1024x1 .f32) (v36 : IVec S6x1024x1 1) (z : Ideal .f32) (i : S6x1024x1.Idx) :
    k0_pay1 v34 v36 z i = if v36 i = 1#1 then z else v34 i := by
  pointwise [k0_pay1]
  rfl

theorem pay2 (v34 : FVec Ideal S6x1024x1 .f32) (v36 : IVec S6x1024x1 1) (z : Ideal .f32) (i : S6x1024x1.Idx) :
    k0_pay2 v34 v36 z i = FloatOps.exp2 (F := Ideal) (φ := .f32) (k0_pay1 v34 v36 z i) := by
  pointwise [k0_pay2]

theorem pay4 (v34 : FVec Ideal S6x1024x1 .f32) (v36 : IVec S6x1024x1 1) (z : Ideal .f32) (b : Fin 6) (s : Fin 1024) :
    k0_pay4 v34 v36 z (ix2 b s) = k0_pay2 v34 v36 z (ix3 b s 0) := by
  pointwise [k0_pay4]

theorem pay3 (v18 : FVec Ideal S6x1024x3072 .f32) (v34 : FVec Ideal S6x1024x1 .f32) (v36 : IVec S6x1024x1 1) (z : Ideal .f32) (b : Fin 6) (s : Fin 1024) (k : Fin 3072) :
    k0_pay3 v18 v34 v36 z (ix3 b s k)
      = quant (FloatOps.exp2 (F := Ideal) (φ := .f32) (Ideal.ofBits .f32 0x00000000#32 - k0_pay1 v34 v36 z (ix3 b s 0))) (v18 (ix3 b s k)) := by
  pointwise [k0_pay3, quant]

theorem pay6 (v0 : Vec Ideal S8192x3072 .fp8e4m3) (v1 : Vec Ideal S8192 .f32) (v3 : Vec Ideal S16x3072 .bf16) (v4 : Vec Ideal S8192x16 .bf16) (n : Fin 8192) :
    k0_pay6 v0 v1 v3 v4 (ix1 n)
      = rowNorm (fun k => v0 (ix2 n k)) (v1 (ix1 n)) (fun r => v4 (ix2 n r)) (fun r k => v3 (ix2 r k)) := by
  pointwise [k0_pay6, rowNorm, merged]

theorem pay5 (v0 : Vec Ideal S8192x3072 .fp8e4m3) (v1 : Vec Ideal S8192 .f32) (v2 : Vec Ideal S8192 .f32) (v3 : Vec Ideal S16x3072 .bf16) (v4 : Vec Ideal S8192x16 .bf16) (v5 : Vec Ideal S6x1024x3072 .bf16) (v16 : FVec Ideal S8192 .f32) (v18 : FVec Ideal S6x1024x3072 .f32) (v34 : FVec Ideal S6x1024x1 .f32) (v36 : IVec S6x1024x1 1) (z : Ideal .f32)
    (b : Fin 6) (s : Fin 1024) (n : Fin 8192) :
    k0_pay5 v0 v1 v2 v3 v4 v5 v16 v18 v34 v36 z (ix3 b s n)
      = outOf (fun k => k0_pay3 v18 v34 v36 z (ix3 b s k)) (fun k => v0 (ix2 n k)) (k0_pay2 v34 v36 z (ix3 b s 0)) (v1 (ix1 n))
          (fun r => low (fun k => v5 (ix3 b s k)) (fun k => v3 (ix2 r k))) (fun r => v4 (ix2 n r)) (v2 (ix1 n)) (v16 (ix1 n)) := by
  pointwise [k0_pay5, outOf, low]

/-- The token's exponent. -/
theorem exponent (x : Vec Ideal S6x1024x3072 .bf16) (b : Fin 6) (s : Fin 1024) :
    k0_pay1 (k0_pay9 x) (k0_pay10 x) (Scalar.ofBits (F := Ideal) .f32 0x00000000#32) (ix3 b s 0) = rE (vOf fun k => x (ix3 b s k)) := by
  refine (pay1 _ _ _ _).trans ?_
  rw [pay10, pay9, pay8]
  generalize vOf (fun k => x (ix3 b s k)) = v
  unfold rE
  by_cases h : v < Ideal.ofBits .f32 0x00800000#32
  · rw [if_pos h, if_pos (by rw [decide_eq_true h]; rfl)]
    rfl
  · rw [if_neg h, if_neg (by rw [decide_eq_false h]; decide)]

/-- The token's scale. -/
theorem scale (x : Vec Ideal S6x1024x3072 .bf16) (b : Fin 6) (s : Fin 1024) :
    k0_pay2 (k0_pay9 x) (k0_pay10 x) (Scalar.ofBits (F := Ideal) .f32 0x00000000#32) (ix3 b s 0) = rScale (vOf fun k => x (ix3 b s k)) := by
  refine (pay2 _ _ _ _).trans ?_
  rw [exponent, rScale]

/-- The token's codes. -/
theorem code (x : Vec Ideal S6x1024x3072 .bf16) (b : Fin 6) (s : Fin 1024) (k : Fin 3072) :
    k0_pay3 (k0_pay7 x) (k0_pay9 x) (k0_pay10 x) (Scalar.ofBits (F := Ideal) .f32 0x00000000#32) (ix3 b s k)
      = quant (rInv (vOf fun k => x (ix3 b s k))) (x (ix3 b s k)) := by
  refine (pay3 _ _ _ _ _ _ _).trans ?_
  rw [exponent, rInv]
  rfl

end Cert.ReferenceIdeal.Point

end
-- ==== Proof.RefValue.lean ====
/-
  The reference's run with its results: each of its four arrays ends at the layer's result, at the reference's scale.
-/
module

public import proofs.«01_k».proof.Proof.Layer
public import proofs.«01_k».proof.Proof.RefPoint

@[expose] public section

set_option maxRecDepth 16384

noncomputable section

namespace Cert.ReferenceIdeal.Arr

open Cert.ReferenceIdeal Cert.ReferenceIdeal.Gen Cert.ReferenceIdeal.Point Cert.Quant
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem idx0_0 : ∀ t, win0_0.index t = ![0, 0, 0] := by decide +kernel
theorem idx0_1 : ∀ t, win0_1.index t = ![0, 0] := by decide +kernel
theorem idx0_2 : ∀ t, win0_2.index t = ![0] := by decide +kernel
theorem idx0_3 : ∀ t, win0_3.index t = ![0, 0] := by decide +kernel
theorem idx0_4 : ∀ t, win0_4.index t = ![0, 0] := by decide +kernel
theorem idx0_5 : ∀ t, win0_5.index t = ![0] := by decide +kernel
theorem idx0_6 : ∀ t, win0_6.index t = ![0, 0, 0] := by decide +kernel
theorem idx0_7 : ∀ t, win0_7.index t = ![0] := by decide +kernel
theorem idx0_8 : ∀ t, win0_8.index t = ![0, 0, 0] := by decide +kernel
theorem idx0_9 : ∀ t, win0_9.index t = ![0, 0] := by decide +kernel

theorem blk0_0 (c : Dev nD) (t : Fin cfg0.N) (i j k) : iblk m c 0 t (ix3 i j k) = m ((c : Thread nD τ).loc main_arg0) (ix3 i j k) := by
  blk_point [iblk, V, idx0_0]

theorem blk0_1 (c : Dev nD) (t : Fin cfg0.N) (i j) : iblk m c 1 t (ix2 i j) = m ((c : Thread nD τ).loc main_arg1) (ix2 i j) := by
  blk_point [iblk, V, idx0_1]

theorem blk0_2 (c : Dev nD) (t : Fin cfg0.N) (i) : iblk m c 2 t (ix1 i) = m ((c : Thread nD τ).loc main_arg2) (ix1 i) := by
  blk_point [iblk, V, idx0_2]

theorem blk0_3 (c : Dev nD) (t : Fin cfg0.N) (i j) : iblk m c 3 t (ix2 i j) = m ((c : Thread nD τ).loc main_arg3) (ix2 i j) := by
  blk_point [iblk, V, idx0_3]

theorem blk0_4 (c : Dev nD) (t : Fin cfg0.N) (i j) : iblk m c 4 t (ix2 i j) = m ((c : Thread nD τ).loc main_arg4) (ix2 i j) := by
  blk_point [iblk, V, idx0_4]

theorem blk0_5 (c : Dev nD) (t : Fin cfg0.N) (i) : iblk m c 5 t (ix1 i) = m ((c : Thread nD τ).loc main_arg5) (ix1 i) := by
  blk_point [iblk, V, idx0_5]

/-- The array of codes. -/
theorem arr8 (c : Dev nD) : (dats m 0 c).arrAt 8 cfg0.N = codeArr rInv (m ((c : Thread nD τ).loc main_arg0)) := by
  refine (dats m 0 c).arrAt_eq_of_covers 8 _ (by decide +kernel) fun t hf y => ?_
  blk_simp [idx0_8]
  rw [after0_8]
  frame_out
  change S6x1024x3072.Idx at y
  idx_vars y
  simp only [k0_pay11, k0_pay12, k0_pay13]
  frame_out
  refine (code _ _ _ _).trans ?_
  have e : ((View.whole main_v0_2).slice (win0_8.rect t)).emb (ix3 y0 y1 y2) = (ix3 y0 y1 y2) := by
    blk_point [idx0_8]
  rw [e]
  simp only [blk0_0]
  rfl

/-- The array of scales. -/
theorem arr9 (c : Dev nD) : (dats m 0 c).arrAt 9 cfg0.N = scaleArr rScale (m ((c : Thread nD τ).loc main_arg0)) := by
  refine (dats m 0 c).arrAt_eq_of_covers 9 _ (by decide +kernel) fun t hf y => ?_
  blk_simp [idx0_9]
  rw [after0_9]
  frame_out
  change S6x1024.Idx at y
  idx_vars y
  simp only [k0_pay11, k0_pay12, k0_pay13]
  frame_out
  refine ((pay4 _ _ _ _ _).trans (scale _ _ _)).trans ?_
  have e : ((View.whole main_v0_3).slice (win0_9.rect t)).emb (ix2 y0 y1) = (ix2 y0 y1) := by
    blk_point [idx0_9]
  rw [e]
  simp only [blk0_0]
  rfl

/-- The array of row norms. -/
theorem arr7 (c : Dev nD) : (dats m 0 c).arrAt 7 cfg0.N = normArr (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp [idx0_7]
  rw [after0_7]
  frame_out
  change S8192.Idx at y
  idx_vars y
  refine (pay6 _ _ _ _ _).trans ?_
  have e : ((View.whole main_v0_1).slice (win0_7.rect t)).emb (ix1 y0) = (ix1 y0) := by
    blk_point [idx0_7]
  rw [e]
  simp only [blk0_1, blk0_2, blk0_3, blk0_4]
  rfl

/-- The output array. -/
theorem arr6 (c : Dev nD) : (dats m 0 c).arrAt 6 cfg0.N = outArr rScale rInv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp [idx0_6]
  rw [after0_6]
  frame_out
  change S6x1024x8192.Idx at y
  idx_vars y
  simp only [k0_pay11, k0_pay12, k0_pay13]
  frame_out
  refine (pay5 _ _ _ _ _ _ _ _ _ _ _ _ _ _).trans ?_
  have e : ((View.whole main_v0_0).slice (win0_6.rect t)).emb (ix3 y0 y1 y2) = (ix3 y0 y1 y2) := by
    blk_point [idx0_6]
  rw [e]
  simp only [code, scale, pay6, blk0_0, blk0_1, blk0_2, blk0_3, blk0_4, blk0_5]
  rfl

/-- Every execution of the reference ends with the four results and the arguments unchanged. -/
theorem run : θ_run defs (onTc (τ := τ) (main (F := Ideal))) ⟨m, fun _ => 0, ρ⟩ fun r => ∀ c : Dev nD,
      r.2.mem ((c.tc : Thread nD τ).loc main_v0_0) = outArr rScale rInv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v0_1) = normArr (m ((c : Thread nD τ).loc main_arg1)) (m ((c : Thread nD τ).loc main_arg2)) (m ((c : Thread nD τ).loc main_arg3)) (m ((c : Thread nD τ).loc main_arg4))
      ∧ r.2.mem ((c.tc : Thread nD τ).loc main_v0_2) = codeArr rInv (m ((c : Thread nD τ).loc main_arg0))
      ∧ r.2.mem ((c.tc : Thread nD τ).loc main_v0_3) = scaleArr rScale (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (arr6 m c), ((h c).1 7).trans (arr7 m c),
      ((h c).1 8).trans (arr8 m c), ((h c).1 9).trans (arr9 m c),
      ((h c).1 0).trans ((dats m 0 c).arrAt_in 0 rfl _), ((h c).1 1).trans ((dats m 0 c).arrAt_in 1 rfl _), ((h c).1 2).trans ((dats m 0 c).arrAt_in 2 rfl _), ((h c).1 3).trans ((dats m 0 c).arrAt_in 3 rfl _), ((h c).1 4).trans ((dats m 0 c).arrAt_in 4 rfl _), ((h c).1 5).trans ((dats m 0 c).arrAt_in 5 rfl _)⟩)
    (run_main m ρ)

end Cert.ReferenceIdeal.Arr

end
-- ==== Proof.Powers.lean ====
/-
  The bit patterns of zero mantissa as powers of two, and the kernel's search over them: where `v` lies between two
  neighbouring patterns, the eight comparisons find the lower one's exponent field.
-/
module

public import proofs.«01_k».proof.Proof.Scale

@[expose] public section

noncomputable section

namespace Cert.Quant

open Idealize.ShloMosaic

/-- The float of exponent field `n` and zero mantissa. -/
def P (n : ℕ) : EReal := Ideal.ofBits .f32 (BitVec.ofNat 32 n <<< 23)

theorem bits_sign : ∀ n : Fin 256, (BitVec.ofNat 32 n <<< 23).extractLsb' 31 1 = 0#1 := by decide +kernel
theorem bits_exp : ∀ n : Fin 256, ((BitVec.ofNat 32 n <<< 23).extractLsb' 23 8).toNat = n := by decide +kernel
theorem bits_frac : ∀ n : Fin 256, ((BitVec.ofNat 32 n <<< 23).extractLsb' 0 23).toNat = 0 := by decide +kernel

theorem P_zero : P 0 = 0 := Ideal.ofBits_zero_f32

/-- A float of zero mantissa and normal exponent field, whatever its pattern. -/
theorem ieee_pow (w : BitVec 32) (n : ℕ) (hs : w.extractLsb' 31 1 = 0#1) (he : (w.extractLsb' 23 8).toNat = n) (hf : (w.extractLsb' 0 23).toNat = 0)
    (h1 : n ≠ 0) (h2 : n ≠ 255) : Ideal.ieee 8 23 w = (((2 : ℝ) ^ ((n : ℤ) - 127) : ℝ) : EReal) := by
  have e1 : ¬ n = 2 ^ 8 - 1 := h2
  unfold Ideal.ieee
  simp only [Nat.reduceAdd, hs, he, hf, if_neg e1, if_neg h1]
  refine congrArg _ ?_
  norm_num
  rw [show (8388608 : ℝ) = (2 : ℝ) ^ (23 : ℤ) by norm_num, ← zpow_add₀ (by norm_num)]
  refine congrArg _ ?_
  ring

/-- A normal pattern of zero mantissa is a power of two. -/
theorem P_pow (n : ℕ) (h1 : 1 ≤ n) (h2 : n ≤ 254) : P n = (((2 : ℝ) ^ ((n : ℤ) - 127) : ℝ) : EReal) :=
  ieee_pow (BitVec.ofNat 32 n <<< 23) n (bits_sign ⟨n, by omega⟩) (bits_exp ⟨n, by omega⟩) (bits_frac ⟨n, by omega⟩) (by omega) (by omega)

theorem P_top : P 255 = ⊤ := by
  have hs := bits_sign 255
  have he := bits_exp 255
  have hf := bits_frac 255
  show Ideal.ieee 8 23 (BitVec.ofNat 32 255 <<< 23) = _
  simp [Ideal.ieee]

/-- The patterns ascend. -/
theorem P_lt (n : ℕ) (h : n < 255) : P n < P (n + 1) := by
  rcases Nat.eq_zero_or_pos n with rfl | h1
  · rw [P_zero, P_pow 1 le_rfl (by norm_num)]
    exact_mod_cast (by positivity : (0 : ℝ) < (2 : ℝ) ^ (((1 : ℕ) : ℤ) - 127))
  · rcases Nat.lt_or_ge n 254 with h2 | h2
    · rw [P_pow n h1 (by omega), P_pow (n + 1) (by omega) (by omega)]
      exact EReal.coe_lt_coe_iff.2 (zpow_lt_zpow_right₀ (by norm_num) (by push_cast; omega))
    · obtain rfl : n = 254 := by omega
      rw [P_pow 254 (by norm_num) le_rfl, P_top]
      exact EReal.coe_lt_top _

theorem P_le {a b : ℕ} (h : a ≤ b) (hb : b ≤ 255) : P a ≤ P b := by
  induction b, h using Nat.le_induction with
  | base => exact le_rfl
  | succ n _ ih => exact (ih (by omega)).trans (P_lt n (by omega)).le

/-- `v` lies between two neighbouring patterns. -/
theorem exists_between {v : EReal} (h0 : 0 ≤ v) (n : ℕ) (h : v < P n) : ∃ N, N < n ∧ P N ≤ v ∧ v < P (N + 1) := by
  induction n with
  | zero => exact absurd h (by rw [P_zero]; exact not_lt.2 h0)
  | succ n ih =>
    by_cases hn : P n ≤ v
    · exact ⟨n, Nat.lt_succ_self n, hn, h⟩
    · obtain ⟨N, a, b⟩ := ih (not_le.1 hn)
      exact ⟨N, Nat.lt_succ_of_lt a, b⟩

/-- One comparison, over the field it looks for. -/
def bisN (N : ℕ) (b f : BitVec 32) : BitVec 32 := if (f + b).toNat ≤ N then f + b else f

theorem bis_eq {v : EReal} {N : ℕ} (hN : N ≤ 254) (h1 : P N ≤ v) (h2 : v < P (N + 1)) (b f : BitVec 32) (h : (f + b).toNat ≤ 255) :
    bis v b f = bisN N b f := by
  unfold bis bisN
  have e : Ideal.ofBits .f32 ((f + b) <<< 23) = P (f + b).toNat := by unfold P; rw [BitVec.ofNat_toNat, BitVec.setWidth_eq]
  rw [e]
  by_cases hc : (f + b).toNat ≤ N
  · rw [if_pos hc, if_pos ((P_le hc (by omega)).trans h1)]
  · rw [if_neg hc, if_neg (not_le.2 (h2.trans_le (P_le (by omega) h)))]

def f1 (N : ℕ) : BitVec 32 := bisN N 128#32 0#32
def f2 (N : ℕ) : BitVec 32 := bisN N 64#32 (f1 N)
def f3 (N : ℕ) : BitVec 32 := bisN N 32#32 (f2 N)
def f4 (N : ℕ) : BitVec 32 := bisN N 16#32 (f3 N)
def f5 (N : ℕ) : BitVec 32 := bisN N 8#32 (f4 N)
def f6 (N : ℕ) : BitVec 32 := bisN N 4#32 (f5 N)
def f7 (N : ℕ) : BitVec 32 := bisN N 2#32 (f6 N)

theorem b2 : ∀ N : Fin 255, (f1 N + 64#32).toNat ≤ 255 := by decide +kernel
theorem b3 : ∀ N : Fin 255, (f2 N + 32#32).toNat ≤ 255 := by decide +kernel
theorem b4 : ∀ N : Fin 255, (f3 N + 16#32).toNat ≤ 255 := by decide +kernel
theorem b5 : ∀ N : Fin 255, (f4 N + 8#32).toNat ≤ 255 := by decide +kernel
theorem b6 : ∀ N : Fin 255, (f5 N + 4#32).toNat ≤ 255 := by decide +kernel
theorem b7 : ∀ N : Fin 255, (f6 N + 2#32).toNat ≤ 255 := by decide +kernel
theorem b8 : ∀ N : Fin 255, (f7 N + 1#32).toNat ≤ 255 := by decide +kernel
theorem found : ∀ N : Fin 255, bisN N 1#32 (f7 N) = BitVec.ofNat 32 N := by decide +kernel

/-- The eight comparisons find the field. -/
theorem field_eq {v : EReal} {N : ℕ} (hN : N ≤ 254) (h1 : P N ≤ v) (h2 : v < P (N + 1)) : field v = BitVec.ofNat 32 N := by
  have hN' : N < 255 := by omega
  unfold field
  rw [bis_eq hN h1 h2 128#32 0#32 (by decide), show bisN N 128#32 0#32 = f1 N from rfl,
    bis_eq hN h1 h2 64#32 _ (b2 ⟨N, hN'⟩), show bisN N 64#32 (f1 N) = f2 N from rfl,
    bis_eq hN h1 h2 32#32 _ (b3 ⟨N, hN'⟩), show bisN N 32#32 (f2 N) = f3 N from rfl,
    bis_eq hN h1 h2 16#32 _ (b4 ⟨N, hN'⟩), show bisN N 16#32 (f3 N) = f4 N from rfl,
    bis_eq hN h1 h2 8#32 _ (b5 ⟨N, hN'⟩), show bisN N 8#32 (f4 N) = f5 N from rfl,
    bis_eq hN h1 h2 4#32 _ (b6 ⟨N, hN'⟩), show bisN N 4#32 (f5 N) = f6 N from rfl,
    bis_eq hN h1 h2 2#32 _ (b7 ⟨N, hN'⟩), show bisN N 2#32 (f6 N) = f7 N from rfl,
    bis_eq hN h1 h2 1#32 _ (b8 ⟨N, hN'⟩)]
  exact found ⟨N, hN'⟩

end Cert.Quant

end
-- ==== Proof.ScaleEq.lean ====
/-
  The kernel's scale and inverse are the reference's, for every `v` from zero up to `2^126`.
-/
module

public import proofs.«01_k».proof.Proof.Powers

@[expose] public section

noncomputable section

namespace Cert.Quant

open Idealize.ShloMosaic

theorem k0 : (127#32 + (if (BitVec.ofNat 32 0) = 0#32 then 0#32 else BitVec.ofNat 32 0 - 126#32)) = BitVec.ofNat 32 127 := by decide
theorem k0' : (127#32 - (if (BitVec.ofNat 32 0) = 0#32 then 0#32 else BitVec.ofNat 32 0 - 126#32)) = BitVec.ofNat 32 127 := by decide
theorem k1 : ∀ N : Fin 253, 1 ≤ N.val → (127#32 + (if (BitVec.ofNat 32 N) = 0#32 then 0#32 else BitVec.ofNat 32 N - 126#32)) = BitVec.ofNat 32 (N + 1) := by
  decide +kernel
theorem k1' : ∀ N : Fin 253, 1 ≤ N.val → (127#32 - (if (BitVec.ofNat 32 N) = 0#32 then 0#32 else BitVec.ofNat 32 N - 126#32)) = BitVec.ofNat 32 (253 - N) := by
  decide +kernel

/-- The power of two of an integer. -/
theorem exp2_int (z : ℤ) : FloatOps.exp2 (F := Ideal) (φ := .f32) (((z : ℝ) : EReal) : Ideal .f32) = (((2 : ℝ) ^ z : ℝ) : EReal) := by
  show ((Real.rpow 2 (z : ℝ) : ℝ) : EReal) = _
  congr 1
  exact Real.rpow_intCast 2 z

theorem toInt_eq : ∀ i : Fin 256, (BitVec.ofNat 32 i).toInt = (i.val : ℤ) := by decide +kernel

theorem c125 : Ideal.ofBits .f32 0x42FA0000#32 = ((125 : ℝ) : EReal) := by
  simp [Ideal.ofBits, Ideal.ieee, -EReal.coe_mul]; norm_num
theorem c131 : Ideal.ofBits .f32 0x43030000#32 = ((131 : ℝ) : EReal) := by
  simp [Ideal.ofBits, Ideal.ieee, -EReal.coe_mul]; norm_num
theorem cinf : Ideal.ofBits .f32 0x7F800000#32 = ⊤ := by simp [Ideal.ofBits, Ideal.ieee]
theorem cmin : Ideal.ofBits .f32 0x00800000#32 = P 1 := rfl

/-- The candidates are the integers from -125 on. -/
theorem cand_eq (i : Fin 256) : cand i = ((((i.val : ℤ) - 125 : ℤ) : ℝ) : EReal) := by
  unfold cand
  rw [c125, show FloatOps.sitofp (F := Ideal) .f32 (BitVec.ofNat 32 i) = (((BitVec.ofNat 32 i).toInt : ℝ) : EReal) from rfl, toInt_eq]
  rw [← EReal.coe_sub]
  push_cast
  rfl

/-- The reference's exponent, where `v` lies between two neighbouring powers of two. -/
theorem rE_eq {v : EReal} {N : ℕ} (h0 : 1 ≤ N) (hN : N ≤ 252) (h1 : P N ≤ v) (h2 : v < P (N + 1)) :
    rE v = ((((N : ℤ) - 126 : ℤ) : ℝ) : EReal) := by
  rw [P_pow N h0 (by omega)] at h1
  rw [P_pow (N + 1) (by omega) (by omega)] at h2
  have hlow : ¬ v < Ideal.ofBits .f32 0x00800000#32 := by
    rw [cmin, P_pow 1 le_rfl (by norm_num)]
    refine not_lt.2 (le_trans ?_ h1)
    exact EReal.coe_le_coe_iff.2 (zpow_le_zpow_right₀ (by norm_num) (by omega))
  unfold rE
  rw [if_neg hlow, cinf]
  refine le_antisymm ?_ ?_
  · refine (Finset.fold_min_le _).2 (Or.inr ⟨⟨N - 1, by omega⟩, Finset.mem_univ _, ?_⟩)
    have e : ((((⟨N - 1, by omega⟩ : Fin 256).val : ℤ)) - 125 : ℤ) = (N : ℤ) - 126 := by
      show (((N - 1 : ℕ) : ℤ)) - 125 = _
      omega
    rw [cand_eq, e, exp2_int, if_pos]
    refine h2.trans_le (le_of_eq ?_)
    congr 2
    push_cast
    omega
  · refine (Finset.le_fold_min _).2 ⟨le_top, fun i _ => ?_⟩
    rw [cand_eq, exp2_int, c131]
    split_ifs with hi
    · refine EReal.coe_le_coe_iff.2 (Int.cast_le.2 ?_)
      by_contra hc
      refine absurd (h1.trans_lt hi) (not_lt.2 ?_)
      exact EReal.coe_le_coe_iff.2 (zpow_le_zpow_right₀ (by norm_num) (by omega))
    · refine EReal.coe_le_coe_iff.2 ?_
      have : ((N : ℤ) - 126 : ℤ) ≤ 131 := by omega
      exact_mod_cast this

theorem exp2_zero : FloatOps.exp2 (F := Ideal) (φ := .f32) (0 : EReal) = 1 := by
  have := exp2_int 0
  simpa using this

theorem P_127 : P 127 = 1 := by
  rw [P_pow 127 (by norm_num) (by norm_num)]
  norm_num

/-- The two scales agree, and so do the two inverses. -/
theorem scales_eq {v : EReal} (h0 : 0 ≤ v) (h : v < P 253) : kScale v = rScale v ∧ kInv v = rInv v := by
  obtain ⟨N, hN, h1, h2⟩ := exists_between h0 253 h
  unfold kScale kInv kE rScale rInv
  rw [field_eq (by omega) h1 h2]
  rcases Nat.eq_zero_or_pos N with rfl | hp
  · have e : rE v = 0 := by
      unfold rE
      rw [cmin, if_pos h2, Ideal.ofBits_zero_f32]
    rw [k0, k0', e, Ideal.ofBits_zero_f32, sub_zero, exp2_zero]
    exact ⟨P_127, P_127⟩
  · rw [k1 ⟨N, hN⟩ hp, k1' ⟨N, hN⟩ hp, rE_eq hp (by omega) h1 h2, Ideal.ofBits_zero_f32, zero_sub, ← EReal.coe_neg, ← Int.cast_neg, exp2_int, exp2_int]
    refine ⟨(P_pow (N + 1) (by omega) (by omega)).trans ?_, (P_pow (253 - N) (by omega) (by omega)).trans ?_⟩
    · congr 2
      push_cast
      omega
    · congr 2
      omega

end Cert.Quant

end
-- ==== Proof.Bound.lean ====
/-
  Where the tokens are finite, what a token's scale is read off lies from zero up to `2^126`.
-/
module

public import proofs.«01_k».proof.Proof.ScaleEq
public import proofs.«01_k».proof.Proof.Layer
public import proofs.«01_k».proof.Pre_finite

@[expose] public section

noncomputable section

namespace Cert.Quant

open Idealize.ShloMosaic

theorem cmax : Ideal.ofBits .f32 0x7F7F0000#32 = ((255 * 2 ^ 120 : ℝ) : EReal) := by
  simp [Ideal.ofBits, Ideal.ieee, -EReal.coe_mul]; norm_num

theorem cbot : Ideal.ofBits .f32 0xFF800000#32 = ⊥ := by simp [Ideal.ofBits, Ideal.ieee]

/-- The constant nearest 1/448 is positive and below `2^-8`. -/
theorem c448 : ∃ r : ℝ, Ideal.ofBits .f32 0x3B124925#32 = (r : EReal) ∧ 0 ≤ r ∧ r ≤ 1 / 256 := by
  refine ⟨_, by simp [Ideal.ofBits, Ideal.ieee, -EReal.coe_mul]; rfl, ?_, ?_⟩ <;> norm_num

theorem absf_nonneg (x : EReal) : 0 ≤ FloatOps.absf (F := Ideal) (φ := .f32) x := by
  show 0 ≤ max x (-x)
  rcases le_total 0 x with h | h
  · exact le_max_of_le_left h
  · exact le_max_of_le_right (EReal.neg_nonneg.2 h)

/-- A nonempty row of bounded values. -/
theorem vOf_bound {n : ℕ} (k0 : Fin n) (f : Fin n → EReal)
    (h : ∀ k, FloatOps.absf (F := Ideal) (φ := .f32) (f k) ≤ Ideal.ofBits .f32 0x7F7F0000#32) : 0 ≤ vOf f ∧ vOf f < P 253 := by
  obtain ⟨r, hr, r0, r1⟩ := c448
  have hlo : 0 ≤ rowMax f := (Finset.le_fold_max _).2 (Or.inr ⟨k0, Finset.mem_univ _, absf_nonneg _⟩)
  have hhi : rowMax f ≤ ((255 * 2 ^ 120 : ℝ) : EReal) := by
    rw [← cmax]
    refine (Finset.fold_max_le _).2 ⟨?_, fun k _ => h k⟩
    rw [cbot]
    exact bot_le
  have hreal : ∃ a : ℝ, rowMax f = (a : EReal) := by
    refine ⟨(rowMax f).toReal, (EReal.coe_toReal ?_ ?_).symm⟩
    · exact ne_of_lt (hhi.trans_lt (EReal.coe_lt_top _))
    · exact ne_of_gt ((EReal.bot_lt_coe 0).trans_le hlo)
  obtain ⟨a, ha⟩ := hreal
  unfold vOf
  rw [ha] at hlo hhi ⊢
  have a0 : 0 ≤ a := by exact_mod_cast hlo
  have a1 : a ≤ 255 * 2 ^ 120 := EReal.coe_le_coe_iff.1 hhi
  rw [hr, ← EReal.coe_mul, P_pow 253 (by norm_num) (by norm_num)]
  refine ⟨by exact_mod_cast mul_nonneg a0 r0, EReal.coe_lt_coe_iff.2 ?_⟩
  calc a * r ≤ (255 * 2 ^ 120) * (1 / 256) := mul_le_mul a1 r1 r0 (by positivity)
    _ < _ := by norm_num

/-- What the condition on the tokens says of each of them. -/
theorem bounded [Pre_finite.Facts] (X : FVec Ideal ⟨3, ![6, 1024, 3072]⟩ .bf16) (W : FVec Ideal ⟨2, ![8192, 3072]⟩ .fp8e4m3) (ws : FVec Ideal ⟨1, ![8192]⟩ .f32)
    (A : FVec Ideal ⟨2, ![16, 3072]⟩ .bf16) (B : FVec Ideal ⟨2, ![8192, 16]⟩ .bf16) (mag : FVec Ideal ⟨1, ![8192]⟩ .f32)
    (h : Pre_finite.fn (F := Ideal) X W ws A B mag = fun _ => 1#1) (i : (⟨3, ![6, 1024, 3072]⟩ : Shape).Idx) :
    FloatOps.absf (F := Ideal) (φ := .f32) (X i) ≤ Ideal.ofBits .f32 0x7F7F0000#32 := by
  have hi := congrFun h i
  by_contra hc
  have e : Pre_finite.fn (F := Ideal) X W ws A B mag i = 0#1 := congrArg BitVec.ofBool (decide_eq_false hc)
  rw [e] at hi
  exact absurd hi (by decide)

/-- Under the condition, the two scales agree on every token, and so do the inverses. -/
theorem scales_agree [Pre_finite.Facts] (X : FVec Ideal ⟨3, ![6, 1024, 3072]⟩ .bf16) (W : FVec Ideal ⟨2, ![8192, 3072]⟩ .fp8e4m3) (ws : FVec Ideal ⟨1, ![8192]⟩ .f32)
    (A : FVec Ideal ⟨2, ![16, 3072]⟩ .bf16) (B : FVec Ideal ⟨2, ![8192, 16]⟩ .bf16) (mag : FVec Ideal ⟨1, ![8192]⟩ .f32)
    (h : Pre_finite.fn (F := Ideal) X W ws A B mag = fun _ => 1#1) (b : Fin 6) (s : Fin 1024) :
    kScale (tokenV X b s) = rScale (tokenV X b s) ∧ kInv (tokenV X b s) = rInv (tokenV X b s) := by
  obtain ⟨h0, h1⟩ := vOf_bound (0 : Fin 3072) (fun k => X (ix3 b s k)) fun k => bounded X W ws A B mag h (ix3 b s k)
  exact scales_eq h0 h1

end Cert.Quant

end
-- ==== Proof.Equation.lean ====
/-
  The equation: where the tokens are finite, the kernel and the reference end with equal results.
-/
module

public import proofs.«01_k».proof.Defs
public import proofs.«01_k».proof.Proof.Gen.Pre_finite
public import proofs.«01_k».proof.Proof.Run
public import proofs.«01_k».proof.Proof.Result
public import proofs.«01_k».proof.Proof.RefValue
public import proofs.«01_k».proof.Proof.Bound

@[expose] public section

noncomputable section

namespace Cert.Quant

open Idealize.ShloMosaic Idealize.ShloMosaic.TcCoe Idealize.SL.Sem

/-- The kernel over the extended reals and the reference over the extended reals return the same four results. -/
theorem algebraic : Cert.algebraic_KernelIdeal_ReferenceIdeal_pre_finite := by
  intro m g m' g' hpre harg
  have hs : ∀ (c : Dev KernelIdeal.nD) (b : Fin 6) (s : Fin 1024), kScale (tokenV (m ((c.tc : Thread KernelIdeal.nD KernelIdeal.τ).loc KernelIdeal.main_arg0)) b s)
      = rScale (tokenV (m ((c.tc : Thread KernelIdeal.nD KernelIdeal.τ).loc KernelIdeal.main_arg0)) b s) :=
    fun c b s => (scales_agree _ _ _ _ _ _ (hpre c) b s).1
  have hi : ∀ (c : Dev KernelIdeal.nD) (b : Fin 6) (s : Fin 1024), kInv (tokenV (m ((c.tc : Thread KernelIdeal.nD KernelIdeal.τ).loc KernelIdeal.main_arg0)) b s)
      = rInv (tokenV (m ((c.tc : Thread KernelIdeal.nD KernelIdeal.τ).loc KernelIdeal.main_arg0)) b s) :=
    fun c b s => (scales_agree _ _ _ _ _ _ (hpre c) b s).2
  refine ⟨_, _, _, _, KernelIdeal.Run.run m g, (θ_run _ _ _).mono (fun _ h c => ?_) (ReferenceIdeal.Arr.run m' g')⟩
  obtain ⟨h0, h1, h2, h3, ha⟩ := h c
  obtain ⟨e0, e1, e2, e3, e4, e5⟩ := harg c
  refine ⟨h0.trans ?_, h1.trans ?_, h2.trans ?_, h3.trans ?_, ha⟩
  · rw [e0, e1, e2, e3, e4, e5]
    exact ((KernelIdeal.Result.v8_eq m g c).trans (outArr_congr _ _ _ _ _ _ (hs c) (hi c))).symm
  · rw [e1, e2, e3, e4]
    exact (KernelIdeal.Result.v9_eq m g c).symm
  · rw [e0]
    exact ((KernelIdeal.Result.v10_eq m g c).trans (codeArr_congr _ (hi c))).symm
  · rw [e0]
    exact ((KernelIdeal.Result.v11_eq m g c).trans (scaleArr_congr _ (hs c))).symm

end Cert.Quant

end
-- ==== Proof.lean ====
/-
  The claims, assembled. Both programs' executions and the reference's end with every argument unchanged and every
  semaphore at zero (the generated frames); the program over the extended reals is the program's own reading; and where
  the tokens are finite the program's four results over the extended reals are the reference's (Proof/Equation.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  trivial,
  Cert.Quant.algebraic⟩

end Cert.Proof

end
